-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range_bias_finite [hPre_in_range_bias_finite : Cert.Pre_in_range_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_bias_finite [hPre_in_range_bias_finite : Cert.Pre_in_range_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range_bias_finite [hKernelIdeal : Cert.KernelIdeal.Facts] [hPre_in_range_bias_finite : Cert.Pre_in_range_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_bias_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range_bias_finite [hReferenceIdeal : Cert.ReferenceIdeal.Facts] [hPre_in_range_bias_finite : Cert.Pre_in_range_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range_bias_finite [hKernelIdeal : Cert.KernelIdeal.Facts] [hReferenceIdeal : Cert.ReferenceIdeal.Facts] [hPre_in_range_bias_finite : Cert.Pre_in_range_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_bias_finite : Cert.Pre_in_range_bias_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_bias_finite (hKernelIdeal := hKernelIdeal) (hPre_in_range_bias_finite := hPre_in_range_bias_finite)
    ∧ quiescent_ReferenceIdeal (hReferenceIdeal := hReferenceIdeal)
    ∧ quiescent_ReferenceIdeal_pre_in_range_bias_finite (hReferenceIdeal := hReferenceIdeal) (hPre_in_range_bias_finite := hPre_in_range_bias_finite)
    ∧ preserves_Kernel_KernelIdeal
    ∧ algebraic_KernelIdeal_ReferenceIdeal_pre_in_range_bias_finite (hKernelIdeal := hKernelIdeal) (hReferenceIdeal := hReferenceIdeal) (hPre_in_range_bias_finite := hPre_in_range_bias_finite)
-- ==== Pre_in_range.lean ====
abbrev S320000x2 : Shape := ⟨2, ![320000, 2]⟩
abbrev S10000x128 : Shape := ⟨2, ![10000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S320000x2 : S_.BroadcastsInDim S320000x2 (![] : Fin 0 → Fin S320000x2.rank)
  reducesTo_S320000x2_S_d0_1 : S320000x2.ReducesTo [0, 1] S_
  h_S_ : 0 < S_.numel

variable [Facts]

def fn {F : FTy → Type} [FloatOps F] (main_arg0 : IVec S320000x2 32) (main_arg1 : FVec F S10000x128 .f32) (main_arg2 : FVec F S128x256 .f32) (main_arg3 : FVec F S128 .f32) (main_arg4 : FVec F S1x128 .f32) (main_arg5 : FVec F S1 .f32) : IVec S_ 1 :=
  let main_c : IVec S_ 32 := constantI S_ 32 0#32
  let main_v0 : IVec S320000x2 32 := broadcastInDim S320000x2 ![] bcast_S_S320000x2 main_c
  let main_v1 : IVec S320000x2 1 := cmpi .sge main_arg0 main_v0
  let main_c_0 : IVec S_ 1 := constantI S_ 1 1#1
  let main_v2 : IVec S_ 1 := (fun x v => Host.reduce IntOp.andi x v reducesTo_S320000x2_S_d0_1 h_S_) main_v1 main_c_0
  let main_c_1 : IVec S_ 32 := constantI S_ 32 10000#32
  let main_v3 : IVec S320000x2 32 := broadcastInDim S320000x2 ![] bcast_S_S320000x2 main_c_1
  let main_v4 : IVec S320000x2 1 := cmpi .slt main_arg0 main_v3
  let main_c_2 : IVec S_ 1 := constantI S_ 1 1#1
  let main_v5 : IVec S_ 1 := (fun x v => Host.reduce IntOp.andi x v reducesTo_S320000x2_S_d0_1 h_S_) main_v4 main_c_2
  let main_v6 : IVec S_ 1 := andi main_v2 main_v5
  main_v6
-- ==== Pre_in_range_bias_finite.lean ====
abbrev S320000x2 : Shape := ⟨2, ![320000, 2]⟩
abbrev S10000x128 : Shape := ⟨2, ![10000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S320000x2 : S_.BroadcastsInDim S320000x2 (![] : Fin 0 → Fin S320000x2.rank)
  reducesTo_S320000x2_S_d0_1 : S320000x2.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S320000x2 32) (main_arg1 : FVec F S10000x128 .f32) (main_arg2 : FVec F S128x256 .f32) (main_arg3 : FVec F S128 .f32) (main_arg4 : FVec F S1x128 .f32) (main_arg5 : FVec F S1 .f32) : IVec S_ 1 :=
  let main_c : IVec S_ 32 := constantI S_ 32 0#32
  let main_v0 : IVec S320000x2 32 := broadcastInDim S320000x2 ![] bcast_S_S320000x2 main_c
  let main_v1 : IVec S320000x2 1 := cmpi .sge main_arg0 main_v0
  let main_c_0 : IVec S_ 1 := constantI S_ 1 1#1
  let main_v2 : IVec S_ 1 := (fun x v => Host.reduce IntOp.andi x v reducesTo_S320000x2_S_d0_1 h_S_) main_v1 main_c_0
  let main_c_1 : IVec S_ 32 := constantI S_ 32 10000#32
  let main_v3 : IVec S320000x2 32 := broadcastInDim S320000x2 ![] bcast_S_S320000x2 main_c_1
  let main_v4 : IVec S320000x2 1 := cmpi .slt main_arg0 main_v3
  let main_c_2 : IVec S_ 1 := constantI S_ 1 1#1
  let main_v5 : IVec S_ 1 := (fun x v => Host.reduce IntOp.andi x v reducesTo_S320000x2_S_d0_1 h_S_) main_v4 main_c_2
  let main_v6 : IVec S_ 1 := andi main_v2 main_v5
  let main_v7 : FVec F S1 .f32 := Host.absf main_arg5
  let main_cst : FVec F S_ .f32 := constant S_ .f32 0x7F800000#32
  let main_v8 : FVec F S1 .f32 := broadcastInDim S1 ![] bcast_S_S1 main_cst
  let main_v9 : IVec S1 1 := cmpf .olt main_v7 main_v8
  let main_c_3 : IVec S_ 1 := constantI S_ 1 1#1
  let main_v10 : IVec S_ 1 := (fun x v => Host.reduce IntOp.andi x v reducesTo_S1_S_d0 h_S_) main_v9 main_c_3
  let main_v11 : IVec S_ 1 := andi main_v6 main_v10
  main_v11
-- ==== Kernel.lean ====
abbrev S320000x2 : Shape := ⟨2, ![320000, 2]⟩
abbrev S10000x128 : Shape := ⟨2, ![10000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S320000x1 : Shape := ⟨2, ![320000, 1]⟩
abbrev S320000 : Shape := ⟨1, ![320000]⟩
abbrev S_ : Shape := ⟨0, ![]⟩
abbrev S7680 : Shape := ⟨1, ![7680]⟩
abbrev S327680 : Shape := ⟨1, ![327680]⟩
abbrev S128x128 : Shape := ⟨2, ![128, 128]⟩
abbrev S10240 : Shape := ⟨1, ![10240]⟩
abbrev S16x16 : Shape := ⟨2, ![16, 16]⟩
abbrev S16 : Shape := ⟨1, ![16]⟩
abbrev S1x16 : Shape := ⟨2, ![1, 16]⟩
abbrev S2500x128 : Shape := ⟨2, ![2500, 128]⟩
abbrev S1x2500x128 : Shape := ⟨3, ![1, 2500, 128]⟩
abbrev S1x1x1 : Shape := ⟨3, ![1, 1, 1]⟩

abbrev nBuf : Table → Nat
  | .hbm => 29
  | .local .tc .vmem => 8
  | .local .scVector .vmem => 9
  | _ => 0

abbrev bufTy : (tb : Table) → Fin (nBuf tb) → BufTy
  | .hbm, ⟨0, _⟩ => ⟨S320000x2, .i32⟩
  | .hbm, ⟨1, _⟩ => ⟨S10000x128, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S320000x1, .i32⟩
  | .hbm, ⟨7, _⟩ => ⟨S320000, .i32⟩
  | .hbm, ⟨8, _⟩ => ⟨S320000x1, .i32⟩
  | .hbm, ⟨9, _⟩ => ⟨S320000, .i32⟩
  | .hbm, ⟨10, _⟩ => ⟨S_, .i32⟩
  | .hbm, ⟨11, _⟩ => ⟨S7680, .i32⟩
  | .hbm, ⟨12, _⟩ => ⟨S327680, .i32⟩
  | .hbm, ⟨13, _⟩ => ⟨S_, .i32⟩
  | .hbm, ⟨14, _⟩ => ⟨S7680, .i32⟩
  | .hbm, ⟨15, _⟩ => ⟨S327680, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S128, .f32⟩
  | .hbm, ⟨24, _⟩ => ⟨S327680, .f32⟩
  | .hbm, ⟨25, _⟩ => ⟨S320000, .f32⟩
  | .hbm, ⟨26, _⟩ => ⟨S2500x128, .f32⟩
  | .hbm, ⟨27, _⟩ => ⟨S2500x128, .f32⟩
  | .hbm, ⟨28, _⟩ => ⟨S320000, .f32⟩
  | .local .tc .vmem, ⟨0, _⟩ => ⟨S10000x128, .f32⟩
  | .local .tc .vmem, ⟨1, _⟩ => ⟨S128x128, .f32⟩
  | .local .tc .vmem, ⟨2, _⟩ => ⟨S128x128, .f32⟩
  | .local .tc .vmem, ⟨3, _⟩ => ⟨S1x128, .f32⟩
  | .local .tc .vmem, ⟨4, _⟩ => ⟨S10000x128, .f32⟩
  | .local .tc .vmem, ⟨5, _⟩ => ⟨S10000x128, .f32⟩
  | .local .tc .vmem, ⟨6, _⟩ => ⟨S2500x128, .f32⟩
  | .local .tc .vmem, ⟨7, _⟩ => ⟨S2500x128, .f32⟩
  | .local .scVector .vmem, ⟨0, _⟩ => ⟨S10240, .i32⟩
  | .local .scVector .vmem, ⟨1, _⟩ => ⟨S10240, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S10240, .f32⟩
  | .local .scVector .vmem, ⟨7, _⟩ => ⟨S128, .f32⟩
  | .local .scVector .vmem, ⟨8, _⟩ => ⟨S16x16, .f32⟩
  | _, _ => ⟨S320000x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v13_0_scv : Ref sig .scVector := ⟨.hbm, 21, rfl⟩
abbrev main_v13_1_scv : Ref sig .scVector := ⟨.hbm, 22, rfl⟩
abbrev main_v5_scv : Ref sig .scVector := ⟨.hbm, 12, rfl⟩
abbrev main_v7_scv : Ref sig .scVector := ⟨.hbm, 15, rfl⟩
abbrev main_v14_scv : Ref sig .scVector := ⟨.hbm, 23, rfl⟩
abbrev main_v15_scv : Ref sig .scVector := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc2_stg0_0 : Ref sig .tc := ⟨.vmem, 6, rfl⟩
abbrev cc2_stg1_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc2_sem0_0 : DmaSem sig := 14
abbrev cc2_sem1_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  v2
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := v2
  ![v3.toNat]
def k1_mult2 : BitVec 32 :=
  let c0_i32 : BitVec 32 := 0#32
  c0_i32
@[reducible] def k1_t1_loop : Scf.Loop 32 :=
  let c0_i32_5 : BitVec 32 := 0#32
  let c40_i32 : BitVec 32 := 40#32
  let v18 : BitVec 32 := Scalar.addi c0_i32_5 c40_i32
  let c1_i32 : BitVec 32 := 1#32
  ⟨c0_i32_5, v18, c1_i32⟩
def k1_mult3 (k1_t1 : Fin k1_t1_loop.trips) : BitVec 32 :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c1_i32_8 : BitVec 32 := 1#32
  let v20 : BitVec 32 := Scalar.addi v19 c1_i32_8
  let c128_i32 : BitVec 32 := 128#32
  let v21 : BitVec 32 := Scalar.muli v20 c128_i32
  v21
def k1_off2 (k1_t1 : Fin k1_t1_loop.trips) : Fin 1 → Nat :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c1_i32_8 : BitVec 32 := 1#32
  let v20 : BitVec 32 := Scalar.addi v19 c1_i32_8
  let c128_i32 : BitVec 32 := 128#32
  let v21 : BitVec 32 := Scalar.muli v20 c128_i32
  let v22 : BitVec 32 := v21
  ![v22.toNat]
def k1_mult4 (k1_t1 : Fin k1_t1_loop.trips) : BitVec 32 :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c128_i32_19 : BitVec 32 := 128#32
  let v31 : BitVec 32 := Scalar.muli v19 c128_i32_19
  v31
@[reducible] def k1_t2_loop : Scf.Loop 32 :=
  let c0_i32_21 : BitVec 32 := 0#32
  let c8_i32 : BitVec 32 := 8#32
  let v33 : BitVec 32 := Scalar.addi c0_i32_21 c8_i32
  let c1_i32_22 : BitVec 32 := 1#32
  ⟨c0_i32_21, v33, c1_i32_22⟩
def k1_off3 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v48 : Index := Scalar.indexCast v47
  let c0_41 : Index := 0#32
  ![v48.toNat, 0]
def k1_off4 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v56 : Index := Scalar.indexCast v47
  let c16_43 : Index := 16#32
  ![v56.toNat, 16]
def k1_off5 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v64 : Index := Scalar.indexCast v47
  let c32_46 : Index := 32#32
  ![v64.toNat, 32]
def k1_off6 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v73 : Index := Scalar.indexCast v47
  let c48_49 : Index := 48#32
  ![v73.toNat, 48]
def k1_off7 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v82 : Index := Scalar.indexCast v47
  let c64_52 : Index := 64#32
  ![v82.toNat, 64]
def k1_off8 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v91 : Index := Scalar.indexCast v47
  let c80_55 : Index := 80#32
  ![v91.toNat, 80]
def k1_off9 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v100 : Index := Scalar.indexCast v47
  let c96_58 : Index := 96#32
  ![v100.toNat, 96]
def k1_off10 (k1_t2 : Fin k1_t2_loop.trips) (c0_i32_40 : BitVec 32) : Fin 2 → Nat :=
  let c0_i32_21 : BitVec 32 := 0#32
  let c1_i32_22 : BitVec 32 := 1#32
  let arg22 : BitVec 32 := Scf.iv c0_i32_21 c1_i32_22 k1_t2
  let c16_i32 : BitVec 32 := 16#32
  let v46 : BitVec 32 := Scalar.muli arg22 c16_i32
  let v47 : BitVec 32 := Scalar.addi v46 c0_i32_40
  let v109 : Index := Scalar.indexCast v47
  let c112_61 : Index := 112#32
  ![v109.toNat, 112]

def k1_chk1 (v12 : IVec S16 32) (v1247 : IVec S16 32) : Prop :=
  (∀ a x, ((![v12, v1247] : Fin 2 → IVec S16 32) a x).toNat < S16x16.size a)
theorem k1_idx1_inb : ∀ (v12 : IVec S16 32) (v1247 : IVec S16 32) (k1_hw1 : k1_chk1 v12 v1247), ∀ a x, ((![v12, v1247] : Fin 2 → IVec S16 32) a x).toNat < S16x16.size a := fun v12 v1247 k1_hw1 => k1_hw1

def k1_chk2 (v12 : IVec S16 32) (v1250 : IVec S16 32) : Prop :=
  (∀ a x, ((![v12, v1250] : Fin 2 → IVec S16 32) a x).toNat < S16x16.size a)
theorem k1_idx2_inb : ∀ (v12 : IVec S16 32) (v1250 : IVec S16 32) (k1_hw2 : k1_chk2 v12 v1250), ∀ a x, ((![v12, v1250] : Fin 2 → IVec S16 32) a x).toNat < S16x16.size a := fun v12 v1250 k1_hw2 => k1_hw2

def k1_chk3 (v12 : IVec S16 32) (v1253 : IVec S16 32) : Prop :=
  (∀ a x, ((![v12, v1253] : Fin 2 → IVec S16 32) a x).toNat < S16x16.size a)
theorem k1_idx3_inb : ∀ (v12 : IVec S16 32) (v1253 : IVec S16 32) (k1_hw3 : k1_chk3 v12 v1253), ∀ a x, ((![v12, v1253] : Fin 2 → IVec S16 32) a x).toNat < S16x16.size a := fun v12 v1253 k1_hw3 => k1_hw3

def k1_chk4 (v12 : IVec S16 32) (v1256 : IVec S16 32) : Prop :=
  (∀ a x, ((![v12, v1256] : Fin 2 → IVec S16 32) a x).toNat < S16x16.size a)
theorem k1_idx4_inb : ∀ (v12 : IVec S16 32) (v1256 : IVec S16 32) (k1_hw4 : k1_chk4 v12 v1256), ∀ a x, ((![v12, v1256] : Fin 2 → IVec S16 32) a x).toNat < S16x16.size a := fun v12 v1256 k1_hw4 => k1_hw4

def k1_chk5 (v12 : IVec S16 32) (v1259 : IVec S16 32) : Prop :=
  (∀ a x, ((![v12, v1259] : Fin 2 → IVec S16 32) a x).toNat < S16x16.size a)
theorem k1_idx5_inb : ∀ (v12 : IVec S16 32) (v1259 : IVec S16 32) (k1_hw5 : k1_chk5 v12 v1259), ∀ a x, ((![v12, v1259] : Fin 2 → IVec S16 32) a x).toNat < S16x16.size a := fun v12 v1259 k1_hw5 => k1_hw5

def k1_chk6 (v12 : IVec S16 32) (v1262 : IVec S16 32) : Prop :=
  (∀ a x, ((![v12, v1262] : Fin 2 → IVec S16 32) a x).toNat < S16x16.size a)
theorem k1_idx6_inb : ∀ (v12 : IVec S16 32) (v1262 : IVec S16 32) (k1_hw6 : k1_chk6 v12 v1262), ∀ a x, ((![v12, v1262] : Fin 2 → IVec S16 32) a x).toNat < S16x16.size a := fun v12 v1262 k1_hw6 => k1_hw6

def k1_chk7 (v12 : IVec S16 32) (v1265 : IVec S16 32) : Prop :=
  (∀ a x, ((![v12, v1265] : Fin 2 → IVec S16 32) a x).toNat < S16x16.size a)
theorem k1_idx7_inb : ∀ (v12 : IVec S16 32) (v1265 : IVec S16 32) (k1_hw7 : k1_chk7 v12 v1265), ∀ a x, ((![v12, v1265] : Fin 2 → IVec S16 32) a x).toNat < S16x16.size a := fun v12 v1265 k1_hw7 => k1_hw7

def k1_chk8 (v12 : IVec S16 32) (v1268 : IVec S16 32) : Prop :=
  (∀ a x, ((![v12, v1268] : Fin 2 → IVec S16 32) a x).toNat < S16x16.size a)
theorem k1_idx8_inb : ∀ (v12 : IVec S16 32) (v1268 : IVec S16 32) (k1_hw8 : k1_chk8 v12 v1268), ∀ a x, ((![v12, v1268] : Fin 2 → IVec S16 32) a x).toNat < S16x16.size a := fun v12 v1268 k1_hw8 => k1_hw8

def k1_chk9 (v12 : IVec S16 32) (v1271 : IVec S16 32) : Prop :=
  (∀ a x, ((![v12, v1271] : Fin 2 → IVec S16 32) a x).toNat < S16x16.size a)
theorem k1_idx9_inb : ∀ (v12 : IVec S16 32) (v1271 : IVec S16 32) (k1_hw9 : k1_chk9 v12 v1271), ∀ a x, ((![v12, v1271] : Fin 2 → IVec S16 32) a x).toNat < S16x16.size a := fun v12 v1271 k1_hw9 => k1_hw9

def k1_chk10 (v12 : IVec S16 32) (v1274 : IVec S16 32) : Prop :=
  (∀ a x, ((![v12, v1274] : Fin 2 → IVec S16 32) a x).toNat < S16x16.size a)
theorem k1_idx10_inb : ∀ (v12 : IVec S16 32) (v1274 : IVec S16 32) (k1_hw10 : k1_chk10 v12 v1274), ∀ a x, ((![v12, v1274] : Fin 2 → IVec S16 32) a x).toNat < S16x16.size a := fun v12 v1274 k1_hw10 => k1_hw10

def k1_chk11 (v12 : IVec S16 32) (v1277 : IVec S16 32) : Prop :=
  (∀ a x, ((![v12, v1277] : Fin 2 → IVec S16 32) a x).toNat < S16x16.size a)
theorem k1_idx11_inb : ∀ (v12 : IVec S16 32) (v1277 : IVec S16 32) (k1_hw11 : k1_chk11 v12 v1277), ∀ a x, ((![v12, v1277] : Fin 2 → IVec S16 32) a x).toNat < S16x16.size a := fun v12 v1277 k1_hw11 => k1_hw11

def k1_chk12 (v12 : IVec S16 32) (v1280 : IVec S16 32) : Prop :=
  (∀ a x, ((![v12, v1280] : Fin 2 → IVec S16 32) a x).toNat < S16x16.size a)
theorem k1_idx12_inb : ∀ (v12 : IVec S16 32) (v1280 : IVec S16 32) (k1_hw12 : k1_chk12 v12 v1280), ∀ a x, ((![v12, v1280] : Fin 2 → IVec S16 32) a x).toNat < S16x16.size a := fun v12 v1280 k1_hw12 => k1_hw12

def k1_chk13 (v12 : IVec S16 32) (v1283 : IVec S16 32) : Prop :=
  (∀ a x, ((![v12, v1283] : Fin 2 → IVec S16 32) a x).toNat < S16x16.size a)
theorem k1_idx13_inb : ∀ (v12 : IVec S16 32) (v1283 : IVec S16 32) (k1_hw13 : k1_chk13 v12 v1283), ∀ a x, ((![v12, v1283] : Fin 2 → IVec S16 32) a x).toNat < S16x16.size a := fun v12 v1283 k1_hw13 => k1_hw13

def k1_chk14 (v12 : IVec S16 32) (v1286 : IVec S16 32) : Prop :=
  (∀ a x, ((![v12, v1286] : Fin 2 → IVec S16 32) a x).toNat < S16x16.size a)
theorem k1_idx14_inb : ∀ (v12 : IVec S16 32) (v1286 : IVec S16 32) (k1_hw14 : k1_chk14 v12 v1286), ∀ a x, ((![v12, v1286] : Fin 2 → IVec S16 32) a x).toNat < S16x16.size a := fun v12 v1286 k1_hw14 => k1_hw14

def k1_chk15 (v12 : IVec S16 32) (v1289 : IVec S16 32) : Prop :=
  (∀ a x, ((![v12, v1289] : Fin 2 → IVec S16 32) a x).toNat < S16x16.size a)
theorem k1_idx15_inb : ∀ (v12 : IVec S16 32) (v1289 : IVec S16 32) (k1_hw15 : k1_chk15 v12 v1289), ∀ a x, ((![v12, v1289] : Fin 2 → IVec S16 32) a x).toNat < S16x16.size a := fun v12 v1289 k1_hw15 => k1_hw15

def k1_chk16 (v12 : IVec S16 32) (v1292 : IVec S16 32) : Prop :=
  (∀ a x, ((![v12, v1292] : Fin 2 → IVec S16 32) a x).toNat < S16x16.size a)
theorem k1_idx16_inb : ∀ (v12 : IVec S16 32) (v1292 : IVec S16 32) (k1_hw16 : k1_chk16 v12 v1292), ∀ a x, ((![v12, v1292] : Fin 2 → IVec S16 32) a x).toNat < S16x16.size a := fun v12 v1292 k1_hw16 => k1_hw16
def k1_off11 (k1_t1 : Fin k1_t1_loop.trips) (k1_t2 : Fin k1_t2_loop.trips) : Fin 1 → Nat :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c128_i32_19 : BitVec 32 := 128#32
  let v31 : BitVec 32 := Scalar.muli v19 c128_i32_19
  let v32 : BitVec 32 := v31
  let c0_i32_21 : BitVec 32 := 0#32
  let c1_i32_22 : BitVec 32 := 1#32
  let arg22 : BitVec 32 := Scf.iv c0_i32_21 c1_i32_22 k1_t2
  let c16_i32_491 : BitVec 32 := 16#32
  let v1295 : BitVec 32 := Scalar.muli arg22 c16_i32_491
  let v1296 : BitVec 32 := Scalar.addi v32 v1295
  let v1297 : Index := Scalar.indexCast v1296
  ![v1297.toNat]
def k1_cond1 (k1_t1 : Fin k1_t1_loop.trips) : BitVec 1 :=
  let c0_i32_5 : BitVec 32 := 0#32
  let c1_i32 : BitVec 32 := 1#32
  let arg21 : BitVec 32 := Scf.iv c0_i32_5 c1_i32 k1_t1
  let c1_i32_24 : BitVec 32 := 1#32
  let v34 : BitVec 32 := Scalar.addi arg21 c1_i32_24
  let c40_i32_25 : BitVec 32 := 40#32
  let v35 : BitVec 1 := Scalar.cmpi .slt v34 c40_i32_25
  let v36 : BitVec 32 := Scalar.extui v35
  let c0_i32_26 : BitVec 32 := 0#32
  let v37 : BitVec 1 := Scalar.cmpi .ne v36 c0_i32_26
  v37

def k1_mult5 (k1_t1 : Fin k1_t1_loop.trips) : BitVec 32 :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c2_i32_40 : BitVec 32 := 2#32
  let v46 : BitVec 32 := Scalar.addi v19 c2_i32_40
  let c128_i32_41 : BitVec 32 := 128#32
  let v47 : BitVec 32 := Scalar.muli v46 c128_i32_41
  v47
def k1_off12 (k1_t1 : Fin k1_t1_loop.trips) : Fin 1 → Nat :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c2_i32_40 : BitVec 32 := 2#32
  let v46 : BitVec 32 := Scalar.addi v19 c2_i32_40
  let c128_i32_41 : BitVec 32 := 128#32
  let v47 : BitVec 32 := Scalar.muli v46 c128_i32_41
  let v48 : BitVec 32 := v47
  ![v48.toNat]
def k1_mult6 (k1_t1 : Fin k1_t1_loop.trips) : BitVec 32 :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c1_i32_33 : BitVec 32 := 1#32
  let v42 : BitVec 32 := Scalar.addi v19 c1_i32_33
  let c128_i32_34 : BitVec 32 := 128#32
  let v43 : BitVec 32 := Scalar.muli v42 c128_i32_34
  v43
@[reducible] def k1_t3_loop : Scf.Loop 32 :=
  let c0_i32_36 : BitVec 32 := 0#32
  let c8_i32_37 : BitVec 32 := 8#32
  let v45 : BitVec 32 := Scalar.addi c0_i32_36 c8_i32_37
  let c1_i32_38 : BitVec 32 := 1#32
  ⟨c0_i32_36, v45, c1_i32_38⟩
def k1_off13 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v48 : Index := Scalar.indexCast v47
  let c0_41 : Index := 0#32
  ![v48.toNat, 0]
def k1_off14 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v56 : Index := Scalar.indexCast v47
  let c16_43 : Index := 16#32
  ![v56.toNat, 16]
def k1_off15 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v64 : Index := Scalar.indexCast v47
  let c32_46 : Index := 32#32
  ![v64.toNat, 32]
def k1_off16 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v73 : Index := Scalar.indexCast v47
  let c48_49 : Index := 48#32
  ![v73.toNat, 48]
def k1_off17 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v82 : Index := Scalar.indexCast v47
  let c64_52 : Index := 64#32
  ![v82.toNat, 64]
def k1_off18 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v91 : Index := Scalar.indexCast v47
  let c80_55 : Index := 80#32
  ![v91.toNat, 80]
def k1_off19 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v100 : Index := Scalar.indexCast v47
  let c96_58 : Index := 96#32
  ![v100.toNat, 96]
def k1_off20 (k1_t3 : Fin k1_t3_loop.trips) (c0_i32_40 : BitVec 32) : Fin 2 → Nat :=
  let c0_i32_36 : BitVec 32 := 0#32
  let c1_i32_38 : BitVec 32 := 1#32
  let arg22 : BitVec 32 := Scf.iv c0_i32_36 c1_i32_38 k1_t3
  let c16_i32 : BitVec 32 := 16#32
  let v46 : BitVec 32 := Scalar.muli arg22 c16_i32
  let v47 : BitVec 32 := Scalar.addi v46 c0_i32_40
  let v109 : Index := Scalar.indexCast v47
  let c112_61 : Index := 112#32
  ![v109.toNat, 112]

def k1_chk17 (v12 : IVec S16 32) (v1247 : IVec S16 32) : Prop :=
  (∀ a x, ((![v12, v1247] : Fin 2 → IVec S16 32) a x).toNat < S16x16.size a)
theorem k1_idx17_inb : ∀ (v12 : IVec S16 32) (v1247 : IVec S16 32) (k1_hw17 : k1_chk17 v12 v1247), ∀ a x, ((![v12, v1247] : Fin 2 → IVec S16 32) a x).toNat < S16x16.size a := fun v12 v1247 k1_hw17 => k1_hw17

def k1_chk18 (v12 : IVec S16 32) (v1250 : IVec S16 32) : Prop :=
  (∀ a x, ((![v12, v1250] : Fin 2 → IVec S16 32) a x).toNat < S16x16.size a)
theorem k1_idx18_inb : ∀ (v12 : IVec S16 32) (v1250 : IVec S16 32) (k1_hw18 : k1_chk18 v12 v1250), ∀ a x, ((![v12, v1250] : Fin 2 → IVec S16 32) a x).toNat < S16x16.size a := fun v12 v1250 k1_hw18 => k1_hw18

def k1_chk19 (v12 : IVec S16 32) (v1253 : IVec S16 32) : Prop :=
  (∀ a x, ((![v12, v1253] : Fin 2 → IVec S16 32) a x).toNat < S16x16.size a)
theorem k1_idx19_inb : ∀ (v12 : IVec S16 32) (v1253 : IVec S16 32) (k1_hw19 : k1_chk19 v12 v1253), ∀ a x, ((![v12, v1253] : Fin 2 → IVec S16 32) a x).toNat < S16x16.size a := fun v12 v1253 k1_hw19 => k1_hw19

def k1_chk20 (v12 : IVec S16 32) (v1256 : IVec S16 32) : Prop :=
  (∀ a x, ((![v12, v1256] : Fin 2 → IVec S16 32) a x).toNat < S16x16.size a)
theorem k1_idx20_inb : ∀ (v12 : IVec S16 32) (v1256 : IVec S16 32) (k1_hw20 : k1_chk20 v12 v1256), ∀ a x, ((![v12, v1256] : Fin 2 → IVec S16 32) a x).toNat < S16x16.size a := fun v12 v1256 k1_hw20 => k1_hw20

def k1_chk21 (v12 : IVec S16 32) (v1259 : IVec S16 32) : Prop :=
  (∀ a x, ((![v12, v1259] : Fin 2 → IVec S16 32) a x).toNat < S16x16.size a)
theorem k1_idx21_inb : ∀ (v12 : IVec S16 32) (v1259 : IVec S16 32) (k1_hw21 : k1_chk21 v12 v1259), ∀ a x, ((![v12, v1259] : Fin 2 → IVec S16 32) a x).toNat < S16x16.size a := fun v12 v1259 k1_hw21 => k1_hw21

def k1_chk22 (v12 : IVec S16 32) (v1262 : IVec S16 32) : Prop :=
  (∀ a x, ((![v12, v1262] : Fin 2 → IVec S16 32) a x).toNat < S16x16.size a)
theorem k1_idx22_inb : ∀ (v12 : IVec S16 32) (v1262 : IVec S16 32) (k1_hw22 : k1_chk22 v12 v1262), ∀ a x, ((![v12, v1262] : Fin 2 → IVec S16 32) a x).toNat < S16x16.size a := fun v12 v1262 k1_hw22 => k1_hw22

def k1_chk23 (v12 : IVec S16 32) (v1265 : IVec S16 32) : Prop :=
  (∀ a x, ((![v12, v1265] : Fin 2 → IVec S16 32) a x).toNat < S16x16.size a)
theorem k1_idx23_inb : ∀ (v12 : IVec S16 32) (v1265 : IVec S16 32) (k1_hw23 : k1_chk23 v12 v1265), ∀ a x, ((![v12, v1265] : Fin 2 → IVec S16 32) a x).toNat < S16x16.size a := fun v12 v1265 k1_hw23 => k1_hw23

def k1_chk24 (v12 : IVec S16 32) (v1268 : IVec S16 32) : Prop :=
  (∀ a x, ((![v12, v1268] : Fin 2 → IVec S16 32) a x).toNat < S16x16.size a)
theorem k1_idx24_inb : ∀ (v12 : IVec S16 32) (v1268 : IVec S16 32) (k1_hw24 : k1_chk24 v12 v1268), ∀ a x, ((![v12, v1268] : Fin 2 → IVec S16 32) a x).toNat < S16x16.size a := fun v12 v1268 k1_hw24 => k1_hw24

def k1_chk25 (v12 : IVec S16 32) (v1271 : IVec S16 32) : Prop :=
  (∀ a x, ((![v12, v1271] : Fin 2 → IVec S16 32) a x).toNat < S16x16.size a)
theorem k1_idx25_inb : ∀ (v12 : IVec S16 32) (v1271 : IVec S16 32) (k1_hw25 : k1_chk25 v12 v1271), ∀ a x, ((![v12, v1271] : Fin 2 → IVec S16 32) a x).toNat < S16x16.size a := fun v12 v1271 k1_hw25 => k1_hw25

def k1_chk26 (v12 : IVec S16 32) (v1274 : IVec S16 32) : Prop :=
  (∀ a x, ((![v12, v1274] : Fin 2 → IVec S16 32) a x).toNat < S16x16.size a)
theorem k1_idx26_inb : ∀ (v12 : IVec S16 32) (v1274 : IVec S16 32) (k1_hw26 : k1_chk26 v12 v1274), ∀ a x, ((![v12, v1274] : Fin 2 → IVec S16 32) a x).toNat < S16x16.size a := fun v12 v1274 k1_hw26 => k1_hw26

def k1_chk27 (v12 : IVec S16 32) (v1277 : IVec S16 32) : Prop :=
  (∀ a x, ((![v12, v1277] : Fin 2 → IVec S16 32) a x).toNat < S16x16.size a)
theorem k1_idx27_inb : ∀ (v12 : IVec S16 32) (v1277 : IVec S16 32) (k1_hw27 : k1_chk27 v12 v1277), ∀ a x, ((![v12, v1277] : Fin 2 → IVec S16 32) a x).toNat < S16x16.size a := fun v12 v1277 k1_hw27 => k1_hw27

def k1_chk28 (v12 : IVec S16 32) (v1280 : IVec S16 32) : Prop :=
  (∀ a x, ((![v12, v1280] : Fin 2 → IVec S16 32) a x).toNat < S16x16.size a)
theorem k1_idx28_inb : ∀ (v12 : IVec S16 32) (v1280 : IVec S16 32) (k1_hw28 : k1_chk28 v12 v1280), ∀ a x, ((![v12, v1280] : Fin 2 → IVec S16 32) a x).toNat < S16x16.size a := fun v12 v1280 k1_hw28 => k1_hw28

def k1_chk29 (v12 : IVec S16 32) (v1283 : IVec S16 32) : Prop :=
  (∀ a x, ((![v12, v1283] : Fin 2 → IVec S16 32) a x).toNat < S16x16.size a)
theorem k1_idx29_inb : ∀ (v12 : IVec S16 32) (v1283 : IVec S16 32) (k1_hw29 : k1_chk29 v12 v1283), ∀ a x, ((![v12, v1283] : Fin 2 → IVec S16 32) a x).toNat < S16x16.size a := fun v12 v1283 k1_hw29 => k1_hw29

def k1_chk30 (v12 : IVec S16 32) (v1286 : IVec S16 32) : Prop :=
  (∀ a x, ((![v12, v1286] : Fin 2 → IVec S16 32) a x).toNat < S16x16.size a)
theorem k1_idx30_inb : ∀ (v12 : IVec S16 32) (v1286 : IVec S16 32) (k1_hw30 : k1_chk30 v12 v1286), ∀ a x, ((![v12, v1286] : Fin 2 → IVec S16 32) a x).toNat < S16x16.size a := fun v12 v1286 k1_hw30 => k1_hw30

def k1_chk31 (v12 : IVec S16 32) (v1289 : IVec S16 32) : Prop :=
  (∀ a x, ((![v12, v1289] : Fin 2 → IVec S16 32) a x).toNat < S16x16.size a)
theorem k1_idx31_inb : ∀ (v12 : IVec S16 32) (v1289 : IVec S16 32) (k1_hw31 : k1_chk31 v12 v1289), ∀ a x, ((![v12, v1289] : Fin 2 → IVec S16 32) a x).toNat < S16x16.size a := fun v12 v1289 k1_hw31 => k1_hw31

def k1_chk32 (v12 : IVec S16 32) (v1292 : IVec S16 32) : Prop :=
  (∀ a x, ((![v12, v1292] : Fin 2 → IVec S16 32) a x).toNat < S16x16.size a)
theorem k1_idx32_inb : ∀ (v12 : IVec S16 32) (v1292 : IVec S16 32) (k1_hw32 : k1_chk32 v12 v1292), ∀ a x, ((![v12, v1292] : Fin 2 → IVec S16 32) a x).toNat < S16x16.size a := fun v12 v1292 k1_hw32 => k1_hw32
def k1_off21 (k1_t1 : Fin k1_t1_loop.trips) (k1_t3 : Fin k1_t3_loop.trips) : Fin 1 → Nat :=
  let c0_i32_5 : BitVec 32 := 0#32
  let c1_i32 : BitVec 32 := 1#32
  let arg21 : BitVec 32 := Scf.iv c0_i32_5 c1_i32 k1_t1
  let c2_i32_7 : BitVec 32 := 2#32
  let v19 : BitVec 32 := Scalar.muli arg21 c2_i32_7
  let c1_i32_33 : BitVec 32 := 1#32
  let v42 : BitVec 32 := Scalar.addi v19 c1_i32_33
  let c128_i32_34 : BitVec 32 := 128#32
  let v43 : BitVec 32 := Scalar.muli v42 c128_i32_34
  let v44 : BitVec 32 := v43
  let c0_i32_36 : BitVec 32 := 0#32
  let c1_i32_38 : BitVec 32 := 1#32
  let arg22 : BitVec 32 := Scf.iv c0_i32_36 c1_i32_38 k1_t3
  let c16_i32_491 : BitVec 32 := 16#32
  let v1295 : BitVec 32 := Scalar.muli arg22 c16_i32_491
  let v1296 : BitVec 32 := Scalar.addi v44 v1295
  let v1297 : Index := Scalar.indexCast v1296
  ![v1297.toNat]
def k1_off22 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := v2
  ![v3.toNat]
abbrev grid2 : Pipeline.Grid := .none

abbrev stage2_0 : Fin 1 → Memref sig .tc .vmem S2500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2500x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x2 : Shape := ⟨2, ![320000, 2]⟩
abbrev S10000x128 : Shape := ⟨2, ![10000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S320000x1 : Shape := ⟨2, ![320000, 1]⟩
abbrev S320000 : Shape := ⟨1, ![320000]⟩
abbrev S_ : Shape := ⟨0, ![]⟩
abbrev S1x1 : Shape := ⟨2, ![1, 1]⟩
abbrev S320000x128 : Shape := ⟨2, ![320000, 128]⟩
abbrev S320000x256 : Shape := ⟨2, ![320000, 256]⟩
abbrev S256x128 : Shape := ⟨2, ![256, 128]⟩
abbrev S128x1 : Shape := ⟨2, ![128, 1]⟩

abbrev nBuf : Space → Nat
  | .hbm => 84
  | .vmem => 0
  | .smem => 0
  | _ => 0

abbrev bufTy : (tb : Table) → Fin (tcTables nBuf tb) → BufTy
  | .hbm, ⟨0, _⟩ => ⟨S320000x2, .i32⟩
  | .hbm, ⟨1, _⟩ => ⟨S10000x128, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S320000x1, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S320000x1, .i32⟩
  | .hbm, ⟨32, _⟩ => ⟨S320000, .i32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S1, .i32⟩
  | .hbm, ⟨42, _⟩ => ⟨S_, .i32⟩
  | .hbm, ⟨43, _⟩ => ⟨S320000x1, .i32⟩
  | .hbm, ⟨44, _⟩ => ⟨S320000x1, .i1⟩
  | .hbm, ⟨45, _⟩ => ⟨S1x1, .i32⟩
  | .hbm, ⟨46, _⟩ => ⟨S320000x1, .i32⟩
  | .hbm, ⟨47, _⟩ => ⟨S320000x1, .i1⟩
  | .hbm, ⟨48, _⟩ => ⟨S320000x1, .i1⟩
  | .hbm, ⟨49, _⟩ => ⟨S_, .i1⟩
  | .hbm, ⟨50, _⟩ => ⟨S320000, .i1⟩
  | .hbm, ⟨51, _⟩ => ⟨S320000x128, .f32⟩
  | .hbm, ⟨52, _⟩ => ⟨S320000x128, .i1⟩
  | .hbm, ⟨53, _⟩ => ⟨S_, .f32⟩
  | .hbm, ⟨54, _⟩ => ⟨S320000x128, .f32⟩
  | .hbm, ⟨55, _⟩ => ⟨S320000x128, .f32⟩
  | .hbm, ⟨56, _⟩ => ⟨S320000x256, .f32⟩
  | .hbm, ⟨57, _⟩ => ⟨S256x128, .f32⟩
  | .hbm, ⟨58, _⟩ => ⟨S320000x128, .f32⟩
  | .hbm, ⟨59, _⟩ => ⟨S1x128, .f32⟩
  | .hbm, ⟨60, _⟩ => ⟨S320000x128, .f32⟩
  | .hbm, ⟨61, _⟩ => ⟨S320000x128, .f32⟩
  | .hbm, ⟨62, _⟩ => ⟨S_, .f32⟩
  | .hbm, ⟨63, _⟩ => ⟨S320000x128, .f32⟩
  | .hbm, ⟨64, _⟩ => ⟨S320000x128, .f32⟩
  | .hbm, ⟨65, _⟩ => ⟨S128x1, .f32⟩
  | .hbm, ⟨66, _⟩ => ⟨S320000x1, .f32⟩
  | .hbm, ⟨67, _⟩ => ⟨S1x1, .f32⟩
  | .hbm, ⟨68, _⟩ => ⟨S320000x1, .f32⟩
  | .hbm, ⟨69, _⟩ => ⟨S320000x1, .f32⟩
  | .hbm, ⟨70, _⟩ => ⟨S320000, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S320000, .f32⟩
  | .hbm, ⟨77, _⟩ => ⟨S320000, .f32⟩
  | .hbm, ⟨78, _⟩ => ⟨S320000, .f32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S320000, .f32⟩
  | .hbm, ⟨83, _⟩ => ⟨S320000, .f32⟩
  | _, _ => ⟨S320000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_call2_cst : Ref sig .tc := ⟨.hbm, 62, rfl⟩
abbrev main_call2_v0 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_cst : Ref sig .tc := ⟨.hbm, 71, rfl⟩
abbrev main_v19 : Ref sig .tc := ⟨.hbm, 72, rfl⟩
abbrev main_cst_0 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_cst_1 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩

abbrev nD : Nat := 1
abbrev τ : Topo := Topo.v7x

variable {F : FTy → Type} [FloatOps F]
-- ==== Proof.Row.lean ====
/-
  The scoring step of one tile, written once.

  For a group of sixteen edges the kernel takes the two gathered table rows of each edge, adds them, clamps at zero,
  multiplies by the sixteen-lane pieces of `W2` and adds the eight products up in two chains; the sixteen lane vectors
  so obtained are the rows of a 16 by 16 scratch matrix, whose columns, read by indexed loads, are added up into the
  group's sixteen scores. The printed body spells this out for each row and each column, and a second time for the
  second pair of row buffers. Here it is one program over the row and the column number, and the printed bodies are it.
-/
module

public import proofs.«01_k».proof.Defs
public import proofs.«01_k».proof.Proof.Gen.KernelIdeal
public import proofs.«01_k».proof.Proof.Gen.KernelIdeal.Skeleton

@[expose] public section

noncomputable section

namespace Cert.Proof.Scores

open Cert.KernelIdeal Cert.KernelIdeal.Gen
open Idealize.ShloMosaic Idealize.SL.Sem

variable {F : FTy → Type} [FloatOps F]

/-- Where the sixteen lanes `16 c …` of row `16 g + e` of a row buffer start, as the kernel computes it. -/
def laneOff (g : Fin k1_t2_loop.trips) (e : Fin 16) (c : Fin 8) : Fin 2 → Nat :=
  ![(Scalar.indexCast (Scalar.addi (Scalar.muli (Scf.iv 0#32 1#32 g) 16#32) (BitVec.ofNat 32 e.val))).toNat, 16 * c.val]

/-- It is row `16 g + e`, column `16 c`. -/
theorem laneOff_eq : ∀ (g : Fin k1_t2_loop.trips) (e : Fin 16) (c : Fin 8), laneOff g e c = ![16 * g.val + e.val, 16 * c.val] := by
  decide +kernel

/-- Sixteen lanes from there on lie in the row buffer. -/
theorem laneOff_inb (g : Fin k1_t2_loop.trips) (e : Fin 16) (c : Fin 8) : ∀ a, laneOff g e c a + S1x16.size a ≤ S128x128.size a := by
  have hg : g.val < 8 := g.isLt
  rw [laneOff_eq]; intro a
  match a with
  | 0 => show 16 * g.val + e.val + 1 ≤ 128; omega
  | 1 => show 16 * c.val + 16 ≤ 128; omega

/-- A row of the sixteen by sixteen array lies in it. -/
theorem mrow_inb (e : Fin 16) : ∀ a, (![e.val, 0] : Fin 2 → Nat) a + S1x16.size a ≤ S16x16.size a := fun a => by
  match a with
  | 0 => show e.val + 1 ≤ 16; omega
  | 1 => show 0 + 16 ≤ 16; omega

/-- One product: the two row pieces added, clamped at zero, times a piece of `W2`. -/
def term (w : FVec F S16 .f32) (a b : Vec F S1x16 .f32) : FVec F S16 .f32 :=
  mulf (maximumf (addf (shapeCast S16 a shapeCasts_S1x16_S16) (shapeCast S16 b shapeCasts_S1x16_S16))
    (broadcast S16 (Scalar.ofBits .f32 0x00000000#32))) w

/-- The eight products of a row added up as the kernel does: the even ones in one chain, the odd ones in another. -/
def rowSum (p : Fin 8 → FVec F S16 .f32) : FVec F S16 .f32 :=
  addf (addf (addf (addf (p 0) (p 2)) (p 4)) (p 6)) (addf (addf (addf (p 1) (p 3)) (p 5)) (p 7))

section Prog

variable {sc : Fin τ.nSC} {su : Fin τ.nSub}

/-- The programs of a vector subcore. -/
abbrev TileProg (sc : Fin τ.nSC) (su : Fin τ.nSub) (α : Type) := Prog (TpuEff nD τ sig (Elt F) Λ₀ (.scVector sc su)) α

/-- The loads of one piece of the two rows, and their product. -/
def piece (A B : Memref sig .scVector .vmem S128x128 .f32) (g : Fin k1_t2_loop.trips) (e : Fin 16) (c : Fin 8)
    (w : FVec F S16 .f32) : TileProg (F := F) sc su (FVec F S16 .f32) := do
  let a : Vec F S1x16 .f32 ← Prog.lift (.load A (Rect.unit (s := S128x128) (laneOff g e c) S1x16.size (laneOff_inb g e c)).toLoadRect (View.loadsAt_vmem h_S1x16))
  let b : Vec F S1x16 .f32 ← Prog.lift (.load B (Rect.unit (s := S128x128) (laneOff g e c) S1x16.size (laneOff_inb g e c)).toLoadRect (View.loadsAt_vmem h_S1x16))
  pure (term w a b)

/-- One row: the eight pieces, their sum stored as row `e` of the scratch matrix (whose old row is loaded first, unused). -/
def rowProg (A B : Memref sig .scVector .vmem S128x128 .f32) (M : Memref sig .scVector .vmem S16x16 .f32)
    (w : Fin 8 → FVec F S16 .f32) (g : Fin k1_t2_loop.trips) (e : Fin 16) : TileProg (F := F) sc su PUnit := do
  let p0 ← piece A B g e 0 (w 0)
  let p1 ← piece A B g e 1 (w 1)
  let p2 ← piece A B g e 2 (w 2)
  let p3 ← piece A B g e 3 (w 3)
  let p4 ← piece A B g e 4 (w 4)
  let p5 ← piece A B g e 5 (w 5)
  let p6 ← piece A B g e 6 (w 6)
  let p7 ← piece A B g e 7 (w 7)
  let _ : Vec F S1x16 .f32 ← Prog.lift (.load M (Rect.unit (s := S16x16) ![e.val, 0] S1x16.size (mrow_inb e)).toLoadRect (View.loadsAt_vmem h_S1x16))
  Prog.lift (.store M (Rect.unit (s := S16x16) ![e.val, 0] S1x16.size (mrow_inb e))
    (shapeCast S1x16 (rowSum ![p0, p1, p2, p3, p4, p5, p6, p7]) shapeCasts_S16_S1x16) Finset.univ (View.stores_vmem_bits_univ h_S1x16 rfl) (.inl rfl))

/-- One column: the indexed load of column `j` of the scratch matrix, added to what is there. -/
def colProg (M : Memref sig .scVector .vmem S16x16 .f32) (lanes : IVec S16 32) (j : BitVec 32) (t : FVec F S16 .f32) :
    TileProg (F := F) sc su (FVec F S16 .f32) := do
  have h : k1_chk1 lanes (broadcast S16 j) := (← Prog.lift (TpuEff.assume (k1_chk1 lanes (broadcast S16 j)) (k1_chk1.dec lanes (broadcast S16 j)))).down
  let v : Vec F S16 .f32 ← SparseCore.vectorLoadIdx M ![lanes, broadcast S16 j] (k1_idx1_inb lanes (broadcast S16 j) h) (View.loads_vmem h_S16x16)
  pure (addf t v)

/-- The sixteen rows in turn. -/
def rowsProg (A B : Memref sig .scVector .vmem S128x128 .f32) (M : Memref sig .scVector .vmem S16x16 .f32)
    (w : Fin 8 → FVec F S16 .f32) (g : Fin k1_t2_loop.trips) : TileProg (F := F) sc su PUnit := do
  rowProg A B M w g 0; rowProg A B M w g 1; rowProg A B M w g 2; rowProg A B M w g 3
  rowProg A B M w g 4; rowProg A B M w g 5; rowProg A B M w g 6; rowProg A B M w g 7
  rowProg A B M w g 8; rowProg A B M w g 9; rowProg A B M w g 10; rowProg A B M w g 11
  rowProg A B M w g 12; rowProg A B M w g 13; rowProg A B M w g 14; rowProg A B M w g 15

/-- The sixteen columns in turn. -/
def colsProg (M : Memref sig .scVector .vmem S16x16 .f32) (lanes : IVec S16 32) : TileProg (F := F) sc su (FVec F S16 .f32) := do
  let t ← colProg M lanes 0#32 (broadcast S16 (Scalar.ofBits .f32 0x00000000#32))
  let t ← colProg M lanes 1#32 t
  let t ← colProg M lanes 2#32 t
  let t ← colProg M lanes 3#32 t
  let t ← colProg M lanes 4#32 t
  let t ← colProg M lanes 5#32 t
  let t ← colProg M lanes 6#32 t
  let t ← colProg M lanes 7#32 t
  let t ← colProg M lanes 8#32 t
  let t ← colProg M lanes 9#32 t
  let t ← colProg M lanes 10#32 t
  let t ← colProg M lanes 11#32 t
  let t ← colProg M lanes 12#32 t
  let t ← colProg M lanes 13#32 t
  let t ← colProg M lanes 14#32 t
  colProg M lanes 15#32 t

/-- One group of sixteen edges: the rows, the columns, the sixteen scores stored at `off` of the score buffer. -/
def groupProg (A B : Memref sig .scVector .vmem S128x128 .f32) (M : Memref sig .scVector .vmem S16x16 .f32)
    (R : Memref sig .scVector .vmem S10240 .f32) (w : Fin 8 → FVec F S16 .f32) (lanes : IVec S16 32)
    (g : Fin k1_t2_loop.trips) (off : Fin 1 → Nat) (hoff : ∀ a, off a + S16.size a ≤ S10240.size a) : TileProg (F := F) sc su Unit := do
  rowsProg A B M w g
  let t ← colsProg M lanes
  let _ : Vec F S16 .f32 ← Prog.lift (.load R (Rect.unit (s := S10240) off S16.size hoff).toLoadRect (View.loadsAt_vmem h_S16))
  Prog.lift (.store R (Rect.unit (s := S10240) off S16.size hoff) t Finset.univ (View.stores_vmem_bits_univ h_S16 rfl) (.inl rfl))
  pure ⟨⟩

end Prog

end Cert.Proof.Scores

end
-- ==== Proof.Setup.lean ====
/-
  The program as the launch theorem sees it, and the resources the proof works with.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type}

/-- The labels of the program once its two kernel regions are laid out. -/
abbrev ΛP : Labels := Pipeline.Sig Λ₀ (Fin 2) fun p => (pcfgs (F := F) p).Adm
/-- The SparseCore call. -/
abbrev K : SparseCore.Cfg τ sig (ΛP (F := F)) 1 := sc (F := F)
/-- The bodies of the kernels and of the two regions. -/
abbrev D [FloatOps F] : Defs nD τ sig (Elt F) (ΛP (F := F)) := Pipeline.defs pcfgs defs₀
/-- No loop of the program needs a measure. -/
abbrev 𝒱₀ : Variants := Variants.none
/-- Nor does one of the call. -/
abbrev 𝒱 : Variants := 𝒱₀.lift
/-- The empty measure. -/
abbrev v₀ : 𝒱.V := Sum.inl none

/-- What the call's semaphores and buffers have to satisfy. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' algebra. -/
abbrev UH : Type := URounds (GSem nD τ sig) ℕ
/-- The kernel regions' algebra. -/
abbrev UP : Type := URounds (GSem nD τ sig) Unit
/-- All ghost state: the handshakes', the regions', the copies' counters. -/
abbrev UU : Type := UH × (UP × Counters)

/-- The resources over the ghost state. -/
abbrev MM (F : FTy → Type) : Type := MT nD τ sig (HIx 1) (Elt F) ℕ UU ℕ

/-- The handshakes' part of the ghost state. -/
abbrev EH : Emb UH (MM F) := embL
/-- The regions' part of the ghost state. -/
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- The regions' part lies in the ghost state. -/
instance EP_landsIn : (EP : Emb UP (MM F)).LandsIn (upEmb : UEmb _ (MM F)) := by unfold EP; infer_instance

/-- A launch element's two parts, apart. -/
theorem ownU_split (a : UH) (b : UP) : (ownU ((a, (b, 1)) : UU) : sProp (MM F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

end Cert.Proof.Scores

end
-- ==== Proof.Group.lean ====
/-
  What one group of sixteen edges leaves: the run of `groupProg`, with values.
-/
module

public import proofs.«01_k».proof.Proof.Row
public import proofs.«01_k».proof.Proof.Setup
public import Idealize.ShloMosaic.Lib.WritesUnit

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The sixteen lanes `16 c …` of row `16 g + e` of a row buffer. -/
def lanesOf (a : S128x128.Idx → F .f32) (g : Fin k1_t2_loop.trips) (e : Fin 16) (c : Fin 8) : Vec F S1x16 .f32 :=
  fun x => a ((Rect.unit (s := S128x128) (laneOff g e c) S1x16.size (laneOff_inb g e c)).toLoadRect.idx x)

/-- The lane vector of edge `e` of group `g`: its eight products added up. -/
def rowVec (w : Fin 8 → FVec F S16 .f32) (a b : S128x128.Idx → F .f32) (g : Fin k1_t2_loop.trips) (e : Fin 16) : FVec F S16 .f32 :=
  rowSum ![term (w 0) (lanesOf a g e 0) (lanesOf b g e 0), term (w 1) (lanesOf a g e 1) (lanesOf b g e 1),
    term (w 2) (lanesOf a g e 2) (lanesOf b g e 2), term (w 3) (lanesOf a g e 3) (lanesOf b g e 3),
    term (w 4) (lanesOf a g e 4) (lanesOf b g e 4), term (w 5) (lanesOf a g e 5) (lanesOf b g e 5),
    term (w 6) (lanesOf a g e 6) (lanesOf b g e 6), term (w 7) (lanesOf a g e 7) (lanesOf b g e 7)]

/-- The lane numbers, as the kernel builds them. -/
def lanes : IVec S16 32 := iota .scVector S16 32 [0] iota_S16_d0_w32_scVector

/-- A column number of the sixteen is inside the sixteen by sixteen array. -/
theorem lanes_lt : ∀ (j : Fin 16), k1_chk1 lanes (broadcast S16 (BitVec.ofNat 32 j.val)) := by
  intro j a x
  match a with
  | 0 => show (BitVec.ofNat 32 _).toNat < 16
         have : (x 0).val < 16 := (x 0).isLt
         simp only [List.foldl, BitVec.toNat_ofNat]
         rw [Nat.mod_eq_of_lt (by omega)]; omega
  | 1 => show (BitVec.ofNat 32 j.val).toNat < 16
         rw [BitVec.toNat_ofNat, Nat.mod_eq_of_lt (by omega)]; omega

/-- Column `j` of the scratch matrix, as the indexed load gives it. -/
def colVec (f : S16x16.Idx → F .f32) (j : Fin 16) : FVec F S16 .f32 :=
  loadIdx (e := .f32) f ![lanes, broadcast S16 (BitVec.ofNat 32 j.val)] (k1_idx1_inb lanes _ (lanes_lt j))

/-- The columns added up, in order. -/
def colsSum (f : S16x16.Idx → F .f32) : FVec F S16 .f32 :=
  addf (addf (addf (addf (addf (addf (addf (addf (addf (addf (addf (addf (addf (addf (addf (addf (broadcast S16 (Scalar.ofBits .f32 0x00000000#32))
    (colVec f 0)) (colVec f 1)) (colVec f 2)) (colVec f 3)) (colVec f 4)) (colVec f 5)) (colVec f 6)) (colVec f 7))
    (colVec f 8)) (colVec f 9)) (colVec f 10)) (colVec f 11)) (colVec f 12)) (colVec f 13)) (colVec f 14)) (colVec f 15)

/-- The scratch matrix once all sixteen rows are stored. -/
def matOf (w : Fin 8 → FVec F S16 .f32) (a b : S128x128.Idx → F .f32) (g : Fin k1_t2_loop.trips) : S16x16.Idx → F .f32 :=
  fun y => rowVec w a b g (y 0) (Shape.ofLane (d := S16.size) (y 1))

/-- The sixteen scores of group `g`. -/
def groupVec (w : Fin 8 → FVec F S16 .f32) (a b : S128x128.Idx → F .f32) (g : Fin k1_t2_loop.trips) : FVec F S16 .f32 :=
  colsSum (matOf w a b g)

/-! ## The run -/

section Run

variable {d : Dev nD} {c : Fin τ.nSC} {s : Fin τ.nSub} {bd : Option 𝒱₀.V}

/-- Running a step with a known post, then the rest. -/
theorem wp_seq {α β : Type} {P R : sProp (MM F)} {Q : β → sProp (MM F)} {p : TileProg (F := F) c s α} {k : α → TileProg (F := F) c s β} (x : α)
    (hp : P ⊢ wp frame (wpE (defs₀ (F := F)) 𝒱₀ (V d c s) bd) Set.univ p fun y => iprop(⌜y = x⌝ ∗ R))
    (hk : R ⊢ wp frame (wpE (defs₀ (F := F)) 𝒱₀ (V d c s) bd) Set.univ (k x) Q) :
    P ⊢ wp frame (wpE (defs₀ (F := F)) 𝒱₀ (V d c s) bd) Set.univ (p >>= k) Q := by
  rw [wp_bind]
  refine hp.trans (wp_mono _ _ _ fun y => ?_)
  iintro ⟨%h, HR⟩
  subst h
  iapply hk
  iexact HR

variable (A B : Memref sig .scVector .vmem S128x128 .f32) (M : Memref sig .scVector .vmem S16x16 .f32)
  (R : Memref sig .scVector .vmem S10240 .f32)
  (fa : Buf (Elt F) (A.view.loc (V d c s))) (fb : Buf (Elt F) (B.view.loc (V d c s)))

/-- The two row buffers held, at their contents. -/
def rowsHeld : sProp (MM F) :=
  iprop((A.view.loc (V d c s) ↦[A.view.set]{fullShare} fa) ∗ (B.view.loc (V d c s) ↦[B.view.set]{fullShare} fb))

/-- The loads of one piece give its product. -/
theorem wp_piece (Z : sProp (MM F)) (g : Fin k1_t2_loop.trips) (e : Fin 16) (cc : Fin 8) (w : FVec F S16 .f32) :
    iprop(rowsHeld A B fa fb ∗ Z) ⊢ wp frame (wpE (defs₀ (F := F)) 𝒱₀ (V d c s) bd) Set.univ (piece A B g e cc w)
      fun y => iprop(⌜y = term w (lanesOf (A.view.read (Elt F) fa) g e cc) (lanesOf (B.view.read (Elt F) fb) g e cc)⌝ ∗ rowsHeld A B fa fb ∗ Z) := by
  unfold rowsHeld piece
  iintro ⟨⟨HA, HB⟩, HZ⟩
  iapply (wp_load 𝒱₀ (V d c s) bd Set.univ (S := A.view.set) (View.setOn_subset_set _ _)) $$ HA
  iintro HA
  iapply (wp_load 𝒱₀ (V d c s) bd Set.univ (S := B.view.set) (View.setOn_subset_set _ _)) $$ HB
  iintro HB
  erw [wp_pure]
  imodintro
  isplitr; · ipureintro; rfl
  isplitr [HZ]; · isplitl [HA] <;> iassumption
  iassumption

/-- Lane `l` of a one-row vector. -/
def lane1 (l : Fin 16) : S1x16.Idx := fun a => ⟨![0, l.val] a, by fin_cases a; exacts [Nat.zero_lt_one, l.isLt]⟩

/-- Flattened, a lane of a one-row vector is that lane. -/
theorem lane1_flat (l : Fin 16) : (Shape.reshapeEquiv shapeCasts_S16_S1x16) (lane1 l) = Shape.ofLane (d := S16.size) l := by
  have h : ∀ (l : Fin 16) (a : Fin 1), ((Shape.reshapeEquiv shapeCasts_S16_S1x16) (lane1 l) a).val = l.val := by decide +kernel
  funext a
  exact Fin.ext ((h l a).trans (by fin_cases a; rfl))

/-- The first `n` rows of the scratch matrix hold their lane vectors. -/
def RowsIn (w : Fin 8 → FVec F S16 .f32) (g : Fin k1_t2_loop.trips) (n : Nat) (fm : Buf (Elt F) (M.view.loc (V d c s))) : Prop :=
  ∀ y : S16x16.Idx, (y 0).val < n → M.view.read (Elt F) fm y = matOf w (A.view.read (Elt F) fa) (B.view.read (Elt F) fb) g y

/-- The row buffers, and the scratch matrix with its first `n` rows stored. -/
def matHeld (w : Fin 8 → FVec F S16 .f32) (g : Fin k1_t2_loop.trips) (n : Nat) : sProp (MM F) :=
  iprop(rowsHeld A B fa fb ∗ ∃ fm, ⌜RowsIn A B M fa fb w g n fm⌝ ∗ (M.view.loc (V d c s) ↦[M.view.set]{fullShare} fm))

/-- Storing row `e` over the scratch matrix keeps the rows before it and adds its own. -/
theorem rowsIn_succ (w : Fin 8 → FVec F S16 .f32) (g : Fin k1_t2_loop.trips) (e : Fin 16) (fm : Buf (Elt F) (M.view.loc (V d c s)))
    (h : RowsIn A B M fa fb w g e.val fm) :
    RowsIn A B M fa fb w g (e.val + 1)
      (M.view.writes (Elt F) fm [⟨Rect.unit (s := S16x16) ![e.val, 0] S1x16.size (mrow_inb e),
        shapeCast S1x16 (rowVec w (A.view.read (Elt F) fa) (B.view.read (Elt F) fb) g e) shapeCasts_S16_S1x16⟩]) := by
  intro y hy
  by_cases hlt : (y 0).val < e.val
  · rw [View.read_writes_cons_unit_of_not_mem _ _ _ _ _ _ rfl 0 (Or.inl hlt)]
    exact h y hlt
  · have he : y 0 = e := Fin.ext (by omega)
    rw [View.read_writes_cons_unit_of_mem _ _ _ _ _ _ (lane1 (y 1)) rfl
      (fun a => by fin_cases a; exacts [congrArg Fin.val he, (Nat.zero_add _).symm])]
    unfold matOf
    rw [he]
    exact congrArg (rowVec w _ _ g e) (lane1_flat (y 1))

/-- One row of the group. -/
theorem wp_row (w : Fin 8 → FVec F S16 .f32) (g : Fin k1_t2_loop.trips) (e : Fin 16) :
    matHeld A B M fa fb w g e.val ⊢ wp frame (wpE (defs₀ (F := F)) 𝒱₀ (V d c s) bd) Set.univ (rowProg A B M w g e)
      fun y => iprop(⌜y = ⟨⟩⌝ ∗ matHeld A B M fa fb w g (e.val + 1)) := by
  unfold matHeld rowProg
  iterate 8 refine wp_seq _ (wp_piece A B fa fb _ g e _ _) ?_
  iintro ⟨HR, %fm, %hfm, HM⟩
  iapply (wp_load 𝒱₀ (V d c s) bd Set.univ (S := M.view.set) (View.setOn_subset_set _ _)) $$ HM
  iintro HM
  iapply (wp_store_writes₀ 𝒱₀ (V d c s) bd Set.univ (S := M.view.set) (by rw [View.set_slice]; exact View.setOn_subset_set _ _)) $$ HM
  iintro HM
  erw [wp_pure]
  imodintro
  isplitr; · ipureintro; rfl
  isplitl [HR]; · iassumption
  iexists _
  isplitr
  · ipureintro; exact rowsIn_succ A B M fa fb w g e fm hfm
  iexact HM

/-- All sixteen rows. -/
theorem wp_rows (w : Fin 8 → FVec F S16 .f32) (g : Fin k1_t2_loop.trips) :
    matHeld A B M fa fb w g 0 ⊢ wp frame (wpE (defs₀ (F := F)) 𝒱₀ (V d c s) bd) Set.univ (rowsProg A B M w g)
      fun y => iprop(⌜y = ⟨⟩⌝ ∗ matHeld A B M fa fb w g 16) := by
  unfold rowsProg
  refine wp_seq _ (wp_row A B M fa fb w g 0) ?_
  refine wp_seq _ (wp_row A B M fa fb w g 1) ?_
  refine wp_seq _ (wp_row A B M fa fb w g 2) ?_
  refine wp_seq _ (wp_row A B M fa fb w g 3) ?_
  refine wp_seq _ (wp_row A B M fa fb w g 4) ?_
  refine wp_seq _ (wp_row A B M fa fb w g 5) ?_
  refine wp_seq _ (wp_row A B M fa fb w g 6) ?_
  refine wp_seq _ (wp_row A B M fa fb w g 7) ?_
  refine wp_seq _ (wp_row A B M fa fb w g 8) ?_
  refine wp_seq _ (wp_row A B M fa fb w g 9) ?_
  refine wp_seq _ (wp_row A B M fa fb w g 10) ?_
  refine wp_seq _ (wp_row A B M fa fb w g 11) ?_
  refine wp_seq _ (wp_row A B M fa fb w g 12) ?_
  refine wp_seq _ (wp_row A B M fa fb w g 13) ?_
  refine wp_seq _ (wp_row A B M fa fb w g 14) ?_
  exact wp_row A B M fa fb w g 15

/-- One column, the scratch matrix held. -/
theorem wp_col (Z : sProp (MM F)) (fm : Buf (Elt F) (M.view.loc (V d c s))) (j : Fin 16) (t : FVec F S16 .f32) :
    iprop((M.view.loc (V d c s) ↦[M.view.set]{fullShare} fm) ∗ Z)
      ⊢ wp frame (wpE (defs₀ (F := F)) 𝒱₀ (V d c s) bd) Set.univ (colProg M lanes (BitVec.ofNat 32 j.val) t)
        fun y => iprop(⌜y = addf t (colVec (M.view.read (Elt F) fm) j)⌝ ∗ (M.view.loc (V d c s) ↦[M.view.set]{fullShare} fm) ∗ Z) := by
  unfold colProg
  refine .trans ?_ (wp_assume 𝒱₀ (V d c s) bd Set.univ (lanes_lt j))
  iintro ⟨HM, HZ⟩
  iapply (wp_load 𝒱₀ (V d c s) bd Set.univ (m := M) (S := M.view.set) (View.setOn_subset_set _ _)) $$ HM
  iintro HM
  erw [wp_pure]
  imodintro
  isplitr
  · ipureintro
    have hw : M.view.readAt (Elt F) (LoadRect.whole S16x16) fm = M.view.read (Elt F) fm :=
      funext fun x => congrArg (M.view.read (Elt F) fm) (funext fun a => Fin.ext ((Nat.zero_add _).trans (Nat.one_mul _)))
    rw [hw]; rfl
  isplitl [HM] <;> iassumption

/-- All sixteen columns. -/
theorem wp_cols (Z : sProp (MM F)) (fm : Buf (Elt F) (M.view.loc (V d c s))) :
    iprop((M.view.loc (V d c s) ↦[M.view.set]{fullShare} fm) ∗ Z)
      ⊢ wp frame (wpE (defs₀ (F := F)) 𝒱₀ (V d c s) bd) Set.univ (colsProg M lanes)
        fun y => iprop(⌜y = colsSum (M.view.read (Elt F) fm)⌝ ∗ (M.view.loc (V d c s) ↦[M.view.set]{fullShare} fm) ∗ Z) := by
  unfold colsProg
  refine wp_seq _ (wp_col M Z fm 0 _) ?_
  refine wp_seq _ (wp_col M Z fm 1 _) ?_
  refine wp_seq _ (wp_col M Z fm 2 _) ?_
  refine wp_seq _ (wp_col M Z fm 3 _) ?_
  refine wp_seq _ (wp_col M Z fm 4 _) ?_
  refine wp_seq _ (wp_col M Z fm 5 _) ?_
  refine wp_seq _ (wp_col M Z fm 6 _) ?_
  refine wp_seq _ (wp_col M Z fm 7 _) ?_
  refine wp_seq _ (wp_col M Z fm 8 _) ?_
  refine wp_seq _ (wp_col M Z fm 9 _) ?_
  refine wp_seq _ (wp_col M Z fm 10 _) ?_
  refine wp_seq _ (wp_col M Z fm 11 _) ?_
  refine wp_seq _ (wp_col M Z fm 12 _) ?_
  refine wp_seq _ (wp_col M Z fm 13 _) ?_
  refine wp_seq _ (wp_col M Z fm 14 _) ?_
  exact wp_col M Z fm 15 _

/-- The score buffer with the scores of a group stored at `off`. -/
def groupOut (w : Fin 8 → FVec F S16 .f32) (g : Fin k1_t2_loop.trips) (off : Fin 1 → Nat) (hoff : ∀ a, off a + S16.size a ≤ S10240.size a)
    (fr : Buf (Elt F) (R.view.loc (V d c s))) : Buf (Elt F) (R.view.loc (V d c s)) :=
  R.view.writes (Elt F) fr [⟨Rect.unit (s := S10240) off S16.size hoff, groupVec w (A.view.read (Elt F) fa) (B.view.read (Elt F) fb) g⟩]

/-- The part of the group program after its rows. -/
def scoresProg (off : Fin 1 → Nat) (hoff : ∀ a, off a + S16.size a ≤ S10240.size a) : TileProg (F := F) c s Unit := do
  let t ← colsProg M lanes
  let _ : Vec F S16 .f32 ← Prog.lift (.load R (Rect.unit (s := S10240) off S16.size hoff).toLoadRect (View.loadsAt_vmem h_S16))
  Prog.lift (.store R (Rect.unit (s := S10240) off S16.size hoff) t Finset.univ (View.stores_vmem_bits_univ h_S16 rfl) (.inl rfl))
  pure ⟨⟩

/-- The columns' scores stored, the scratch matrix holding the group's rows. -/
theorem wp_scores (w : Fin 8 → FVec F S16 .f32) (g : Fin k1_t2_loop.trips) (off : Fin 1 → Nat) (hoff : ∀ a, off a + S16.size a ≤ S10240.size a)
    (fr : Buf (Elt F) (R.view.loc (V d c s))) (fm : Buf (Elt F) (M.view.loc (V d c s)))
    (hread : M.view.read (Elt F) fm = matOf w (A.view.read (Elt F) fa) (B.view.read (Elt F) fb) g) :
    iprop((M.view.loc (V d c s) ↦[M.view.set]{fullShare} fm) ∗ rowsHeld A B fa fb ∗ (R.view.loc (V d c s) ↦[R.view.set]{fullShare} fr))
      ⊢ wp frame (wpE (defs₀ (F := F)) 𝒱₀ (V d c s) bd) Set.univ (scoresProg M R off hoff)
        fun _ => iprop(rowsHeld A B fa fb ∗ (∃ fm, M.view.loc (V d c s) ↦[M.view.set]{fullShare} fm)
          ∗ (R.view.loc (V d c s) ↦[R.view.set]{fullShare} groupOut A B R fa fb w g off hoff fr)) := by
  unfold scoresProg
  refine wp_seq _ (wp_cols M iprop(rowsHeld A B fa fb ∗ (R.view.loc (V d c s) ↦[R.view.set]{fullShare} fr)) fm (bd := bd)) ?_
  iintro ⟨HM, HR, HS⟩
  iapply (wp_load 𝒱₀ (V d c s) bd Set.univ (S := R.view.set) (View.setOn_subset_set _ _)) $$ HS
  iintro HS
  iapply (wp_store_writes₀ 𝒱₀ (V d c s) bd Set.univ (S := R.view.set) (by rw [View.set_slice]; exact View.setOn_subset_set _ _)) $$ HS
  iintro HS
  erw [wp_pure]
  imodintro
  isplitl [HR]; · iassumption
  isplitl [HM]; · iexists fm; iassumption
  unfold groupOut groupVec
  rw [← hread]
  iexact HS

/-- One group: the scratch matrix comes back at something, the score buffer with the group's scores stored. -/
theorem wp_group (w : Fin 8 → FVec F S16 .f32) (g : Fin k1_t2_loop.trips) (off : Fin 1 → Nat) (hoff : ∀ a, off a + S16.size a ≤ S10240.size a)
    (fr : Buf (Elt F) (R.view.loc (V d c s))) :
    iprop(rowsHeld A B fa fb ∗ (∃ fm, M.view.loc (V d c s) ↦[M.view.set]{fullShare} fm) ∗ (R.view.loc (V d c s) ↦[R.view.set]{fullShare} fr))
      ⊢ wp frame (wpE (defs₀ (F := F)) 𝒱₀ (V d c s) bd) Set.univ (groupProg A B M R w lanes g off hoff)
        fun _ => iprop(rowsHeld A B fa fb ∗ (∃ fm, M.view.loc (V d c s) ↦[M.view.set]{fullShare} fm)
          ∗ (R.view.loc (V d c s) ↦[R.view.set]{fullShare} groupOut A B R fa fb w g off hoff fr)) := by
  rw [show groupProg (sc := c) (su := s) A B M R w lanes g off hoff = rowsProg A B M w g >>= fun _ => scoresProg M R off hoff from rfl]
  refine .trans ?_ ((sep_mono_left (wp_rows A B M fa fb w g (bd := bd))).trans ((wp_frame_r _ _ _ (R := iprop(R.view.loc (V d c s) ↦[R.view.set]{fullShare} fr))).trans ?_))
  · unfold matHeld
    iintro ⟨HR, ⟨%fm, HM⟩, HS⟩
    isplitr [HS]
    · isplitl [HR]; · iassumption
      iexists fm
      isplitr; · ipureintro; exact fun y h => absurd h (Nat.not_lt_zero _)
      iassumption
    iassumption
  rw [wp_bind]
  refine wp_mono _ _ _ fun y => ?_
  unfold matHeld
  iintro ⟨⟨-, HR, %fm, %hfm, HM⟩, HS⟩
  have hread : M.view.read (Elt F) fm = matOf w (A.view.read (Elt F) fa) (B.view.read (Elt F) fb) g :=
    funext fun y => hfm y (y 0).isLt
  iapply (wp_scores A B M R fa fb w g off hoff fr fm hread)
  isplitl [HM]; · iassumption
  isplitl [HR] <;> iassumption

end Run

end Cert.Proof.Scores

end
-- ==== Proof.Score.lean ====
/-
  The score of one edge as a scalar expression, and that a group's sixteen lanes are sixteen such scores.
-/
module

public import proofs.«01_k».proof.Proof.Group
public import Idealize.ShloMosaic.Lib.Pointwise

@[expose] public section

noncomputable section

namespace Cert.Proof.Scores

open Cert.KernelIdeal Cert.KernelIdeal.Gen
open Idealize.ShloMosaic

variable {F : FTy → Type} [FloatOps F]

/-- Feature `16 c + j` of a row of 128. -/
def feat (c : Fin 8) (j : Fin 16) : Fin 128 := ⟨16 * c.val + j.val, by omega⟩

/-- Zero, as the kernel spells it. -/
def fzero : F .f32 := Scalar.ofBits .f32 0x00000000#32

/-- One product of an edge's score. -/
def prodAt (W p q : Fin 128 → F .f32) (f : Fin 128) : F .f32 :=
  FloatOps.mulf (FloatOps.maximumf (FloatOps.addf (p f) (q f)) fzero) (W f)

/-- The products of lane `j`: the even pieces in one chain, the odd ones in another. -/
def laneAt (W p q : Fin 128 → F .f32) (j : Fin 16) : F .f32 :=
  FloatOps.addf
    (FloatOps.addf (FloatOps.addf (FloatOps.addf (prodAt W p q (feat 0 j)) (prodAt W p q (feat 2 j))) (prodAt W p q (feat 4 j))) (prodAt W p q (feat 6 j)))
    (FloatOps.addf (FloatOps.addf (FloatOps.addf (prodAt W p q (feat 1 j)) (prodAt W p q (feat 3 j))) (prodAt W p q (feat 5 j))) (prodAt W p q (feat 7 j)))

/-- The score of an edge: its sixteen lanes added to zero in order. -/
def edgeScore (W p q : Fin 128 → F .f32) : F .f32 :=
  (List.finRange 16).foldl (fun t j => FloatOps.addf t (laneAt W p q j)) fzero

/-- Row `w` of a table of node rows. -/
def rowAt (t : S10000x128.Idx → F .f32) (w : BitVec 32) (j : Fin 128) : F .f32 := t (ix2 (Fin.ofNat 10000 w.toNat) j)

/-- The eight pieces of a vector of 128 held in registers. -/
def Pieces (w : Fin 8 → FVec F S16 .f32) (W : Fin 128 → F .f32) : Prop := ∀ c j, w c (Shape.ofLane (d := S16.size) j) = W (feat c j)

/-- Lane `l` of a flat vector is column `l` of the one-row vector it is cut from. -/
theorem lane_flat : ∀ (l : Fin 16) (a : Fin 2),
    ((Shape.reshapeEquiv shapeCasts_S1x16_S16) (Shape.ofLane (d := S16.size) l) a).val = (![0, l.val] : Fin 2 → Nat) a := by decide +kernel

/-- One lane of one product. -/
theorem term_lane {w : Fin 8 → FVec F S16 .f32} {W : Fin 128 → F .f32} (hw : Pieces w W) (a b : S128x128.Idx → F .f32)
    (g : Fin k1_t2_loop.trips) (e : Fin 16) (c : Fin 8) (j : Fin 16) (r : Fin 128) (hr : r.val = 16 * g.val + e.val) :
    term (w c) (lanesOf a g e c) (lanesOf b g e c) (Shape.ofLane (d := S16.size) j)
      = prodAt W (fun f => a (ix2 r f)) (fun f => b (ix2 r f)) (feat c j) := by
  have hx : ∀ h : ∀ a, laneOff g e c a + S1x16.size a ≤ S128x128.size a,
      (Rect.unit (s := S128x128) (laneOff g e c) S1x16.size h).toLoadRect.idx
        ((Shape.reshapeEquiv shapeCasts_S1x16_S16) (Shape.ofLane (d := S16.size) j)) = ix2 r (feat c j) := by
    intro h
    funext a'
    apply Fin.ext
    have h1 : ((Rect.unit (s := S128x128) (laneOff g e c) S1x16.size h).toLoadRect.idx
        ((Shape.reshapeEquiv shapeCasts_S1x16_S16) (Shape.ofLane (d := S16.size) j)) a').val
        = laneOff g e c a' + 1 * ((Shape.reshapeEquiv shapeCasts_S1x16_S16) (Shape.ofLane (d := S16.size) j) a').val := rfl
    rw [h1, lane_flat, laneOff_eq]
    match a' with
    | 0 => show 16 * g.val + e.val + 1 * 0 = r.val; omega
    | 1 => show 16 * c.val + 1 * j.val = 16 * c.val + j.val; omega
  have hla : ∀ a : S128x128.Idx → F .f32, shapeCast S16 (lanesOf a g e c) shapeCasts_S1x16_S16 (Shape.ofLane (d := S16.size) j) = a (ix2 r (feat c j)) :=
    fun a => congrArg a (hx (laneOff_inb g e c))
  show FloatOps.mulf (FloatOps.maximumf (FloatOps.addf
      (shapeCast S16 (lanesOf a g e c) shapeCasts_S1x16_S16 (Shape.ofLane (d := S16.size) j))
      (shapeCast S16 (lanesOf b g e c) shapeCasts_S1x16_S16 (Shape.ofLane (d := S16.size) j))) fzero) (w c (Shape.ofLane (d := S16.size) j)) = _
  rw [hla, hla, hw c j]; rfl

/-- One lane of a row's vector. -/
theorem rowVec_lane {w : Fin 8 → FVec F S16 .f32} {W : Fin 128 → F .f32} (hw : Pieces w W) (a b : S128x128.Idx → F .f32)
    (g : Fin k1_t2_loop.trips) (e : Fin 16) (j : Fin 16) (r : Fin 128) (hr : r.val = 16 * g.val + e.val) :
    rowVec w a b g e (Shape.ofLane (d := S16.size) j) = laneAt W (fun f => a (ix2 r f)) (fun f => b (ix2 r f)) j := by
  have h := fun c => term_lane hw a b g e c j r hr
  show FloatOps.addf (FloatOps.addf (FloatOps.addf (FloatOps.addf
      (term (w 0) (lanesOf a g e 0) (lanesOf b g e 0) _) (term (w 2) (lanesOf a g e 2) (lanesOf b g e 2) _))
      (term (w 4) (lanesOf a g e 4) (lanesOf b g e 4) _)) (term (w 6) (lanesOf a g e 6) (lanesOf b g e 6) _))
    (FloatOps.addf (FloatOps.addf (FloatOps.addf
      (term (w 1) (lanesOf a g e 1) (lanesOf b g e 1) _) (term (w 3) (lanesOf a g e 3) (lanesOf b g e 3) _))
      (term (w 5) (lanesOf a g e 5) (lanesOf b g e 5) _)) (term (w 7) (lanesOf a g e 7) (lanesOf b g e 7) _)) = _
  rw [h 0, h 1, h 2, h 3, h 4, h 5, h 6, h 7]; rfl

/-- A lane of a column is that lane's row of the matrix at the column. -/
theorem colVec_lane (f : S16x16.Idx → F .f32) (j e : Fin 16) : colVec f j (Shape.ofLane (d := S16.size) e) = f (ix2 e j) := by
  have h : ∀ (j e : Fin 16) (a : Fin 2), ((![lanes, broadcast S16 (BitVec.ofNat 32 j.val)] : Fin 2 → IVec S16 32) a (Shape.ofLane (d := S16.size) e)).toNat
      = (![e.val, j.val] : Fin 2 → Nat) a := by decide +kernel
  refine congrArg f (funext fun a => Fin.ext ((h j e a).trans ?_))
  match a with
  | 0 => rfl
  | 1 => rfl

/-- Each lane of a group's vector is its edge's score. -/
theorem groupVec_lane {w : Fin 8 → FVec F S16 .f32} {W : Fin 128 → F .f32} (hw : Pieces w W) (a b : S128x128.Idx → F .f32)
    (g : Fin k1_t2_loop.trips) (e : Fin 16) (r : Fin 128) (hr : r.val = 16 * g.val + e.val) :
    groupVec w a b g (Shape.ofLane (d := S16.size) e) = edgeScore W (fun f => a (ix2 r f)) (fun f => b (ix2 r f)) := by
  have h : ∀ j, colVec (matOf w a b g) j (Shape.ofLane (d := S16.size) e) = laneAt W (fun f => a (ix2 r f)) (fun f => b (ix2 r f)) j :=
    fun j => (colVec_lane _ j e).trans (rowVec_lane hw a b g e j r hr)
  show FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf (FloatOps.addf fzero
    (colVec _ 0 _)) (colVec _ 1 _)) (colVec _ 2 _)) (colVec _ 3 _)) (colVec _ 4 _)) (colVec _ 5 _)) (colVec _ 6 _)) (colVec _ 7 _))
    (colVec _ 8 _)) (colVec _ 9 _)) (colVec _ 10 _)) (colVec _ 11 _)) (colVec _ 12 _)) (colVec _ 13 _)) (colVec _ 14 _)) (colVec _ 15 _) = _
  simp only [h]
  rfl

end Cert.Proof.Scores

end
-- ==== Proof.Gather.lean ====
/-
  One indirect gather of 128 rows: its issue and its wait, with the rows it lands.
-/
module

public import proofs.«01_k».proof.Proof.Score

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The row buffer `a` holds the rows of the table `t` that the list `l` names from `off` on. -/
def RowsOf (t : S10000x128.Idx → F .f32) (l : S10240.Idx → BitVec 32) (off : Nat) (a : S128x128.Idx → F .f32) : Prop :=
  ∀ (r : Fin 128) (x : Fin 10240), x.val = off + r.val → ∀ j : Fin 128, a (ix2 r j) = rowAt t (l (ix1 x)) j

/-- A list of row numbers in range. -/
def InRows (l : S10240.Idx → BitVec 32) : Prop := ∀ x, (l x).toNat < 10000

/-- The credits of a row buffer's rows add up to its own. -/
abbrev CreditRows (A : Memref sig .scVector .vmem S128x128 .f32) : Prop :=
  ∑ j, (A.slice (S128x128.rowRect gathers_S10000x128_S128x128.axis' j) (S128x128.stride_rowRect gathers_S10000x128_S128x128.axis' j)).view.dmaCredit
    = A.view.dmaCredit

section Run

variable {d : Dev nD} {c : Fin τ.nSC} {s : Fin τ.nSub} {bd : Option 𝒱₀.V}
variable (T : Memref sig .scVector .hbm S10000x128 .f32) (L : Memref sig .scVector .vmem S10240 .i32)
  (A : Memref sig .scVector .vmem S128x128 .f32) (sem : DmaSem sig)
variable (qt ql : PosShare TreeShare) (ft : Buf (Elt F) (T.view.loc (V d c s))) (fl : Buf (Elt F) (L.view.loc (V d c s)))

/-- What a gather of chunk `off` hands back: the row buffer with the rows, and the shares of the table and of the list. -/
def landed (off : Nat) : sProp (MM F) :=
  iprop((∃ fa, ⌜RowsOf (T.view.read (Elt F) ft) (L.view.read (Elt F) fl) off (A.view.read (Elt F) fa)⌝ ∗ (A.view.loc (V d c s) ↦[A.view.set]{fullShare} fa))
    ∗ (T.view.loc (V d c s) ↦[T.view.set]{qt} ft) ∗ (L.view.loc (V d c s) ↦[L.view.set]{ql} fl))

/-- A gather of chunk `off` in progress. -/
def gath (off : Nat) : sProp (MM F) :=
  iprop(∃ D, Transfers.Flight countersEmb (V d c s) (.dma sem) (default : HIx 1) A.view.dmaCredit D ∗ (D -∗ landed T L A qt ql ft fl off))

/-- The tile's tally of waits, grown by waits of its own copies only. -/
def owing (O : CellTallies nD τ sig (HIx 1)) (W : Waits sig (HIx 1)) : sProp (MM F) :=
  iprop(∃ W', ⌜∀ p ∈ W', p ∈ W ∨ p.2 = none⌝ ∗ owes (V d c s) O W')

/-- The whole table, as the kernel slices it. -/
abbrev tableSlice : Memref sig .scVector .hbm S10000x128 .f32 :=
  T.slice (Rect.unit (s := S10000x128) ![0, 0] S10000x128.size inb_S10000x128_S10000x128_0_0) (fun _ => rfl)
/-- The 128 list entries from `off` on. -/
abbrev listSlice (off : Fin 1 → Nat) (hoff : ∀ a, off a + S128.size a ≤ S10240.size a) : Memref sig .scVector .vmem S128 .i32 :=
  L.slice (Rect.unit (s := S10240) off S128.size hoff) (fun _ => rfl)

/-- The whole table as a slice of itself reads as the table. -/
theorem tableSlice_read (y : S10000x128.Idx) : (tableSlice T).view.read (Elt F) ft y = T.view.read (Elt F) ft y := by
  have : (Rect.unit (s := S10000x128) ![0, 0] S10000x128.size inb_S10000x128_S10000x128_0_0).emb y = y := by
    funext a; apply Fin.ext
    show (![0, 0] : Fin 2 → Nat) a + 1 * (y a).val = (y a).val
    match a with
    | 0 => show 0 + 1 * _ = _; omega
    | 1 => show 0 + 1 * _ = _; omega
  exact congrArg (T.view.read (Elt F) ft) this

/-- An entry of a slice of a list is the list's entry, the offset further on. -/
theorem listSlice_read (off : Fin 1 → Nat) (hoff : ∀ a, off a + S128.size a ≤ S10240.size a) (r : Fin 128) (x : Fin 10240)
    (hx : x.val = off 0 + r.val) : (listSlice L off hoff).view.read (Elt F) fl (ix1 r) = L.view.read (Elt F) fl (ix1 x) := by
  have : (Rect.unit (s := S10240) off S128.size hoff).emb (ix1 r) = ix1 x := by
    funext a; apply Fin.ext
    match a with
    | 0 => show off 0 + 1 * r.val = x.val; omega
  exact congrArg (L.view.read (Elt F) fl) this

/-- A slice of a list that names rows names rows. -/
theorem listSlice_inRows (off : Fin 1 → Nat) (hoff : ∀ a, off a + S128.size a ≤ S10240.size a) (hin : InRows (L.view.read (Elt F) fl)) :
    ∀ x, ((listSlice L off hoff).view.read (Elt F) fl x).toNat < S10000x128.size gathers_S10000x128_S128x128.axis :=
  fun x => hin ((Rect.unit (s := S10240) off S128.size hoff).emb x)

/-- The rows a gather's payload holds. -/
theorem payload_rows (off : Fin 1 → Nat) (hoff : ∀ a, off a + S128.size a ≤ S10240.size a) (hn hin) :
    RowsOf (T.view.read (Elt F) ft) (L.view.read (Elt F) fl) (off 0)
      (SparseCore.gatherPayload gathers_S10000x128_S128x128 ((tableSlice T).view.read (Elt F) ft)
        (SparseCore.rows ((listSlice L off hoff).view.read (Elt F) fl) hn hin)) := by
  intro r x hx j
  unfold SparseCore.gatherPayload rowAt
  rw [tableSlice_read]
  refine congrArg (T.view.read (Elt F) ft) (funext fun a => Fin.ext ?_)
  have hsymm : S128.rowMajor.symm ((r : Fin 128).cast hn.symm) = ix1 r := by
    rw [Equiv.symm_apply_eq]
    apply Fin.ext
    have h : ∀ r : Fin 128, (S128.rowMajor (ix1 r)).val = r.val := by decide +kernel
    exact (h r).symm
  match a with
  | 0 =>
    show ((listSlice L off hoff).view.read (Elt F) fl (S128.rowMajor.symm ((r : Fin 128).cast hn.symm))).toNat = ((L.view.read (Elt F) fl (ix1 x)).toNat) % 10000
    have h1 := hin (ix1 r)
    rw [hsymm]
    rw [listSlice_read L fl off hoff r x hx] at h1 ⊢
    exact (Nat.mod_eq_of_lt h1).symm
  | 1 => rfl

/-- The issue of a gather: the row buffer, a share of the table and of the list, and the semaphore at zero go in. -/
theorem wp_issue {β : Type} {Q : β → sProp (MM F)} (k : PUnit → TileProg (F := F) c s β) (fa : Buf (Elt F) (A.view.loc (V d c s)))
    (off : Fin 1 → Nat) (hoff : ∀ a, off a + S128.size a ≤ S10240.size a) (hin : InRows (L.view.read (Elt F) fl)) (hN : CreditRows A) (hp hn hsrc he hsp hr) :
    iprop((A.view.loc (V d c s) ↦[A.view.set]{fullShare} fa) ∗ (T.view.loc (V d c s) ↦[T.view.set]{qt} ft)
        ∗ (L.view.loc (V d c s) ↦[L.view.set]{ql} fl) ∗ semVal (V d c s, SemLoc.dma sem) 0)
      ⊢ iprop((gath T L A sem qt ql ft fl (off 0) -∗ wp frame (wpE (defs₀ (F := F)) 𝒱₀ (V d c s) bd) Set.univ (k ⟨⟩) Q)
        -∗ wp frame (wpE (defs₀ (F := F)) 𝒱₀ (V d c s) bd) Set.univ
          (SparseCore.enqueueIndirectGather hp (tableSlice T) A gathers_S10000x128_S128x128 (listSlice L off hoff) hn sem hsrc he hsp hr >>= k) Q) := by
  iintro ⟨HA, HT, HL, Hsem⟩ Hk
  ihave HTs := (pointsTo_split_subset (q := qt) (f := ft) (S := T.view.set) (View.set_slice_subset T.view _ : (tableSlice T).view.set ⊆ T.view.set)).1 $$ HT
  icases HTs with ⟨HTs, HTr⟩
  ihave HLs := (pointsTo_split_subset (q := ql) (f := fl) (S := L.view.set) (View.set_slice_subset L.view _ : (listSlice L off hoff).view.set ⊆ L.view.set)).1 $$ HL
  icases HLs with ⟨HLs, HLr⟩
  iapply (SparseCore.wp_indirectGatherLocal countersEmb 𝒱₀ (V d c s) bd (hg := gathers_S10000x128_S128x128) (default : HIx 1)
      A.view.dmaCredit hN (by decide) (listSlice_inRows L fl off hoff hin)) $$ [HA HTs HLs Hsem]
  · isplitl [HTs]; · iexact HTs
    isplitl [HA]; · iexact HA
    isplitl [HLs]; · iexact HLs
    iexact Hsem
  iintro Hfl
  iapply Hk
  unfold gath landed
  iexists _
  isplitl [Hfl]; · iexact Hfl
  iintro ⟨HA, HTs, HLs⟩
  isplitl [HA]
  · iexists _
    isplitr [HA]
    rotate_left
    · iexact HA
    · ipureintro
      rw [View.read_write_univ]
      exact payload_rows T L ft fl off hoff _ _
  isplitl [HTs HTr]
  · iapply (pointsTo_split_subset (q := qt) (f := ft) (S := T.view.set) (View.set_slice_subset T.view _ : (tableSlice T).view.set ⊆ T.view.set)).2
    isplitl [HTs] <;> iassumption
  · iapply (pointsTo_split_subset (q := ql) (f := fl) (S := L.view.set) (View.set_slice_subset L.view _ : (listSlice L off hoff).view.set ⊆ L.view.set)).2
    isplitl [HLs] <;> iassumption

/-- The wait of a gather: its rows are in, the shares are back, the semaphore is at zero. -/
theorem wp_drain {β : Type} {Q : β → sProp (MM F)} (k : PUnit → TileProg (F := F) c s β) (off : Nat)
    (O : CellTallies nD τ sig (HIx 1)) (W : Waits sig (HIx 1)) (hsrc hdst) :
    iprop(gath T L A sem qt ql ft fl off ∗ owing (d := d) (c := c) (s := s) O W ∗ Transfers.MayWaits (V d c s) (default : HIx 1) O)
      ⊢ iprop((iprop(landed T L A qt ql ft fl off ∗ semVal (V d c s, SemLoc.dma sem) 0 ∗ owing (d := d) (c := c) (s := s) O W)
          -∗ wp frame (wpE (defs₀ (F := F)) 𝒱₀ (V d c s) bd) Set.univ (k ⟨⟩) Q)
        -∗ wp frame (wpE (defs₀ (F := F)) 𝒱₀ (V d c s) bd) Set.univ
          (SparseCore.waitIndirectGather sem (tableSlice T) A hsrc hdst >>= k) Q) := by
  unfold gath owing
  iintro ⟨⟨%D, Hfl, HD⟩, ⟨%W', %hW', HO⟩, Hmw⟩ Hk
  rw [show (SparseCore.waitIndirectGather (p := .scVector c s) sem (tableSlice T) A hsrc hdst >>= k) = Prog.op (.waitDma2 sem (tableSlice T) A hsrc hdst) k from rfl]
  iapply (Transfers.wp_waitLocalO countersEmb 𝒱₀ (V d c s) bd (default : HIx 1) (rfl : A.view.dmaCredit = _)) $$ [Hfl HO Hmw]
  · isplitl [Hfl]; · iexact Hfl
    isplitl [HO]; · iexact HO
    iapply (Transfers.MayWaits.elim (SemLoc.dma sem)) $$ Hmw
  iintro ⟨HDD, Hsem, HO⟩
  iapply Hk
  isplitl [HD HDD]; · iapply HD $$ HDD
  isplitl [Hsem]; · iexact Hsem
  iexists _
  isplitr [HO]
  rotate_left
  · iexact HO
  · ipureintro
    intro p hp
    rcases Finset.mem_insert.mp hp with rfl | hp
    · exact Or.inr rfl
    · exact hW' p hp

end Run

end Cert.Proof.Scores

end
-- ==== Proof.Copy.lean ====
/-
  A copy within one tile's reach and the wait for it.
-/
module

public import proofs.«01_k».proof.Proof.Gather

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Run

variable {d : Dev nD} {c : Fin τ.nSC} {s : Fin τ.nSub} {bd : Option 𝒱₀.V}

/-- A copy issued and waited for at once: the destination holds what the source reads, the share of the source is back. -/
theorem wp_copy {β : Type} {Q : β → sProp (MM F)} {sp sp' : Space} {sh : Shape} {e : EltTy}
    (src : Memref sig .scVector sp sh e) (dst : Memref sig .scVector sp' sh e) (sem : DmaSem sig)
    (k : PUnit → TileProg (F := F) c s β) (q : PosShare TreeShare) (fs : Buf (Elt F) (src.view.loc (V d c s)))
    (S : Finset (Idx (src.view.loc (V d c s)))) (hS : src.view.set ⊆ S)
    (O : CellTallies nD τ sig (HIx 1)) (W : Waits sig (HIx 1)) (hN : 0 < sh.numel) (hsrc hdst hsem hsrc' hdst') :
    iprop((src.view.loc (V d c s) ↦[S]{q} fs) ∗ (∃ fd, dst.view.loc (V d c s) ↦[dst.view.set]{fullShare} fd) ∗ semVal (V d c s, SemLoc.dma sem) 0
        ∗ owing (d := d) (c := c) (s := s) O W ∗ Transfers.MayWaits (V d c s) (default : HIx 1) O)
      ⊢ iprop((iprop((src.view.loc (V d c s) ↦[S]{q} fs)
            ∗ (∃ fd, ⌜dst.view.read (Elt F) fd = src.view.read (Elt F) fs⌝ ∗ dst.view.loc (V d c s) ↦[dst.view.set]{fullShare} fd)
            ∗ semVal (V d c s, SemLoc.dma sem) 0 ∗ owing (d := d) (c := c) (s := s) O W)
          -∗ wp frame (wpE (defs₀ (F := F)) 𝒱₀ (V d c s) bd) Set.univ (k ⟨⟩) Q)
        -∗ wp frame (wpE (defs₀ (F := F)) 𝒱₀ (V d c s) bd) Set.univ
          (Prog.lift (.enqueueDma src (.here dst) (.dma sem) hsrc hdst hsem) >>= fun _ => Prog.lift (.waitDma2 sem src dst hsrc' hdst') >>= k) Q) := by
  unfold owing
  iintro ⟨Hs, ⟨%fd, Hd⟩, Hv, ⟨%W', %hW', HO⟩, Hmw⟩ Hk
  ihave Hs := (pointsTo_split_subset hS).1 $$ Hs
  icases Hs with ⟨Hs, Hr⟩
  rw [show (Prog.lift (.enqueueDma src (.here dst) (.dma sem) hsrc hdst hsem) >>= fun _ => Prog.lift (.waitDma2 sem src dst hsrc' hdst') >>= k : TileProg (F := F) c s β)
    = Prog.op (.enqueueDmaAs src (.here dst) .same (.dma sem) hsrc hdst hsem) fun _ => Prog.op (.waitDma2 sem src dst hsrc' hdst') k from rfl]
  iapply (Transfers.wp_dmaLocal countersEmb 𝒱₀ (V d c s) bd (default : HIx 1) dst.view.dmaCredit rfl (View.dmaCredit_pos _ hN) (Finset.Subset.refl _)) $$ [Hs Hd Hv]
  · isplitl [Hs]; · iexact Hs
    isplitl [Hd] <;> iassumption
  iintro Hfl
  iapply (Transfers.wp_waitLocalO countersEmb 𝒱₀ (V d c s) bd (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Hs⟩, Hsem, HO⟩
  iapply Hk
  isplitl [Hs Hr]
  · iapply (pointsTo_split_subset hS).2
    isplitl [Hs] <;> iassumption
  isplitl [Hd]
  · iexists _
    isplitr [Hd]
    rotate_left
    · iexact Hd
    · ipureintro
      rw [View.read_write_univ]
  isplitl [Hsem]; · iexact Hsem
  iexists _
  isplitr [HO]
  rotate_left
  · iexact HO
  · ipureintro
    intro p hp
    rcases Finset.mem_insert.mp hp with rfl | hp
    · exact Or.inr rfl
    · exact hW' p hp

end Run

end Cert.Proof.Scores

end
-- ==== Proof.Groups.lean ====
/-
  The eight groups of a chunk of 128 edges: the scoring loop, with the scores it leaves.
-/
module

public import proofs.«01_k».proof.Proof.Gather

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The score of edge `x` of a tile: its two table rows, named by the two lists. -/
def scoreAt (W : Fin 128 → F .f32) (ta tb : S10000x128.Idx → F .f32) (ls ld : S10240.Idx → BitVec 32) (x : Fin 10240) : F .f32 :=
  edgeScore W (rowAt ta (ls (ix1 x))) (rowAt tb (ld (ix1 x)))

/-- The first `n` scores are in the score buffer. -/
def ScoresIn (W : Fin 128 → F .f32) (ta tb : S10000x128.Idx → F .f32) (ls ld : S10240.Idx → BitVec 32) (n : Nat) (r : S10240.Idx → F .f32) : Prop :=
  ∀ x : Fin 10240, x.val < n → r (ix1 x) = scoreAt W ta tb ls ld x

section Run

variable {d : Dev nD} {c : Fin τ.nSC} {s : Fin τ.nSub} {bd : Option 𝒱₀.V}
variable (A B : Memref sig .scVector .vmem S128x128 .f32) (M : Memref sig .scVector .vmem S16x16 .f32) (R : Memref sig .scVector .vmem S10240 .f32)
variable (W : Fin 128 → F .f32) (ta tb : S10000x128.Idx → F .f32) (ls ld : S10240.Idx → BitVec 32)

/-- Storing a group's scores keeps the ones before and adds the group's own. -/
theorem scoresIn_group {w : Fin 8 → FVec F S16 .f32} (hw : Pieces w W) (base : Nat)
    {fa : Buf (Elt F) (A.view.loc (V d c s))} {fb : Buf (Elt F) (B.view.loc (V d c s))}
    (ha : RowsOf ta ls base (A.view.read (Elt F) fa)) (hb : RowsOf tb ld base (B.view.read (Elt F) fb))
    (g : Fin k1_t2_loop.trips) (off : Fin 1 → Nat) (hoff : ∀ a, off a + S16.size a ≤ S10240.size a) (ho : off 0 = base + 16 * g.val)
    {fr : Buf (Elt F) (R.view.loc (V d c s))} (hr : ScoresIn W ta tb ls ld (base + 16 * g.val) (R.view.read (Elt F) fr)) :
    ScoresIn W ta tb ls ld (base + 16 * (g.val + 1)) (R.view.read (Elt F) (groupOut A B R fa fb w g off hoff fr)) := by
  intro x hx
  have hg : g.val < 8 := g.isLt
  unfold groupOut
  by_cases hlt : x.val < base + 16 * g.val
  · rw [View.read_writes_cons_unit_of_not_mem _ _ _ _ _ _ rfl 0 (Or.inl (by rw [ho]; exact hlt))]
    exact hr x hlt
  · have he : x.val - (base + 16 * g.val) < 16 := by omega
    have hoe : ∀ a : Fin 1, ((Shape.ofLane (d := S16.size) (⟨x.val - (base + 16 * g.val), he⟩ : Fin 16)) a).val = x.val - (base + 16 * g.val) := by
      intro a; fin_cases a; rfl
    rw [View.read_writes_cons_unit_of_mem R.view fr hoff (groupVec w (A.view.read (Elt F) fa) (B.view.read (Elt F) fb) g) [] (ix1 x)
      (Shape.ofLane (d := S16.size) (⟨x.val - (base + 16 * g.val), he⟩ : Fin 16)) rfl (by
        intro a
        match a with
        | 0 => show x.val = off 0 + ((Shape.ofLane (d := S16.size) (⟨x.val - (base + 16 * g.val), he⟩ : Fin 16)) 0).val
               rw [hoe, ho]; omega)]
    have hrow : 16 * g.val + (x.val - (base + 16 * g.val)) < 128 := by omega
    rw [groupVec_lane hw _ _ g ⟨x.val - (base + 16 * g.val), he⟩ ⟨16 * g.val + (x.val - (base + 16 * g.val)), hrow⟩ rfl]
    unfold scoreAt
    congr 1
    · funext j; exact ha _ x (by show x.val = base + (16 * g.val + (x.val - (base + 16 * g.val))); omega) j
    · funext j; exact hb _ x (by show x.val = base + (16 * g.val + (x.val - (base + 16 * g.val))); omega) j

/-- The scratch matrix, holding anything. -/
def matFree : sProp (MM F) := iprop(∃ fm, M.view.loc (V d c s) ↦[M.view.set]{fullShare} fm)

/-- The score buffer with its first `n` scores in. -/
def scores (n : Nat) : sProp (MM F) :=
  iprop(∃ fr, ⌜ScoresIn W ta tb ls ld n (R.view.read (Elt F) fr)⌝ ∗ (R.view.loc (V d c s) ↦[R.view.set]{fullShare} fr))

/-- The scoring loop over a chunk whose rows are in the two row buffers. -/
theorem wp_groups {w : Fin 8 → FVec F S16 .f32} (hw : Pieces w W) (base : Nat)
    (fa : Buf (Elt F) (A.view.loc (V d c s))) (fb : Buf (Elt F) (B.view.loc (V d c s)))
    (ha : RowsOf ta ls base (A.view.read (Elt F) fa)) (hb : RowsOf tb ld base (B.view.read (Elt F) fb))
    (off : Fin k1_t2_loop.trips → Fin 1 → Nat) (hoff : ∀ g a, off g a + S16.size a ≤ S10240.size a) (ho : ∀ g, off g 0 = base + 16 * g.val)
    (body : Fin k1_t2_loop.trips → Unit → TileProg (F := F) c s Unit)
    (hbody : ∀ g u, body g u = groupProg A B M R w lanes g (off g) (hoff g)) :
    iprop(rowsHeld A B fa fb ∗ matFree (d := d) (c := c) (s := s) M ∗ scores (d := d) (c := c) (s := s) R W ta tb ls ld base)
      ⊢ wp frame (wpE (defs₀ (F := F)) 𝒱₀ (V d c s) bd) Set.univ (Scf.Loop.for k1_t2_loop k1_t2_ok () body)
        fun _ => iprop(rowsHeld A B fa fb ∗ matFree (d := d) (c := c) (s := s) M ∗ scores (d := d) (c := c) (s := s) R W ta tb ls ld (base + 128)) := by
  refine .trans ?_ (Scf.wp_for frame (wpE (defs₀ (F := F)) 𝒱₀ (V d c s) bd) Set.univ _ _ _ k1_t2_ok () body
    (fun n _ => iprop(rowsHeld A B fa fb ∗ matFree (d := d) (c := c) (s := s) M ∗ scores (d := d) (c := c) (s := s) R W ta tb ls ld (base + 16 * n))) ?_)
  · iintro H
    isplitl [H]
    · iexact H
    · iintro %_ H
      iexact H
  · intro g u
    rw [hbody]
    unfold scores matFree
    iintro ⟨HR, HM, %fr, %hr, Hs⟩
    iapply (wp_mono _ _ _ fun y => (?_ : _ ⊢ _))
    rotate_left
    · iapply (wp_group A B M R fa fb w g (off g) (hoff g) fr)
      isplitl [HR]; · iexact HR
      isplitl [HM]; · iexact HM
      iexact Hs
    · iintro ⟨HR, HM, Hs⟩
      isplitl [HR]; · iexact HR
      isplitl [HM]; · iexact HM
      iexists _
      isplitr [Hs]
      rotate_left
      · iexact Hs
      · ipureintro
        exact scoresIn_group A B R W ta tb ls ld hw base ha hb g (off g) (hoff g) (ho g) hr

end Run

end Cert.Proof.Scores

end
-- ==== Proof.RowFirst.lean ====
/-
  The printed body of the first scoring loop is the tidy group program of `Row.lean`.
-/
module

public import proofs.«01_k».proof.Proof.Row

@[expose] public section

noncomputable section

namespace Cert.Proof.Scores

open Cert.KernelIdeal Cert.KernelIdeal.Gen
open Idealize.ShloMosaic Idealize.SL.Sem

variable {F : FTy → Type} [FloatOps F]

set_option maxRecDepth 100000 in
set_option maxHeartbeats 4000000 in
/-- The printed body of the first scoring loop is `groupProg` on the first pair of row buffers. -/
theorem t2_eq (i : grid1.Coords) (arg2 : Memref sig .scVector .hbm S10000x128 .f32) (harg2 : arg2.IsWhole) (arg3 : Memref sig .scVector .hbm S10000x128 .f32) (harg3 : arg3.IsWhole) (arg4 : Memref sig .scVector .hbm S327680 .i32) (harg4 : arg4.IsWhole) (arg5 : Memref sig .scVector .hbm S327680 .i32) (harg5 : arg5.IsWhole) (arg6 : Memref sig .scVector .hbm S128 .f32) (harg6 : arg6.IsWhole) (arg7 : Memref sig .scVector .hbm S327680 .f32) (harg7 : arg7.IsWhole) (arg8 : Memref sig .scVector .vmem S10240 .i32) (harg8 : arg8.IsWhole) (arg9 : Memref sig .scVector .vmem S10240 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S10240 .f32) (harg14 : arg14.IsWhole) (arg15 : Memref sig .scVector .vmem S128 .f32) (harg15 : arg15.IsWhole) (arg16 : Memref sig .scVector .vmem S16x16 .f32) (harg16 : arg16.IsWhole) (arg17 arg18 arg19 arg20 r0 r1 r2 r3 : DmaSems sig S_) (v4 v5 v6 v7 v8 v9 v10 v11 : Vec F S16 .f32) (v12 : IVec S16 32) (z o : BitVec 32) (t : Fin k1_t1_loop.trips) (g : Fin k1_t2_loop.trips) (u : Unit) :
    k1_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 v12 z o t g u
      = groupProg arg10 arg11 arg16 arg14 ![v4, v5, v6, v7, v8, v9, v10, v11] v12 g (k1_off11 t g) (k1_off11_inb t g) := by
  rfl

end Cert.Proof.Scores

end
-- ==== Proof.RowSecond.lean ====
/-
  The printed body of the second scoring loop is the tidy group program of `Row.lean`.
-/
module

public import proofs.«01_k».proof.Proof.Row

@[expose] public section

noncomputable section

namespace Cert.Proof.Scores

open Cert.KernelIdeal Cert.KernelIdeal.Gen
open Idealize.ShloMosaic Idealize.SL.Sem

variable {F : FTy → Type} [FloatOps F]

set_option maxRecDepth 100000 in
set_option maxHeartbeats 4000000 in
/-- The printed body of the second scoring loop is `groupProg` on the second pair of row buffers. -/
theorem t3_eq (i : grid1.Coords) (arg2 : Memref sig .scVector .hbm S10000x128 .f32) (harg2 : arg2.IsWhole) (arg3 : Memref sig .scVector .hbm S10000x128 .f32) (harg3 : arg3.IsWhole) (arg4 : Memref sig .scVector .hbm S327680 .i32) (harg4 : arg4.IsWhole) (arg5 : Memref sig .scVector .hbm S327680 .i32) (harg5 : arg5.IsWhole) (arg6 : Memref sig .scVector .hbm S128 .f32) (harg6 : arg6.IsWhole) (arg7 : Memref sig .scVector .hbm S327680 .f32) (harg7 : arg7.IsWhole) (arg8 : Memref sig .scVector .vmem S10240 .i32) (harg8 : arg8.IsWhole) (arg9 : Memref sig .scVector .vmem S10240 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S10240 .f32) (harg14 : arg14.IsWhole) (arg15 : Memref sig .scVector .vmem S128 .f32) (harg15 : arg15.IsWhole) (arg16 : Memref sig .scVector .vmem S16x16 .f32) (harg16 : arg16.IsWhole) (arg17 arg18 arg19 arg20 r0 r1 r2 r3 : DmaSems sig S_) (v4 v5 v6 v7 v8 v9 v10 v11 : Vec F S16 .f32) (v12 : IVec S16 32) (t : Fin k1_t1_loop.trips) (g : Fin k1_t3_loop.trips) (u : Unit) :
    k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 v12 t g u
      = groupProg arg12 arg13 arg16 arg14 ![v4, v5, v6, v7, v8, v9, v10, v11] v12 g (k1_off21 t g) (k1_off21_inb t g) := by
  rfl

end Cert.Proof.Scores

end
-- ==== Proof.Pair.lean ====
/-
  The loop over pairs of chunks: the first pair of row buffers fills while the second is scored, and the other way about.
-/
module

public import proofs.«01_k».proof.Proof.Groups
public import proofs.«01_k».proof.Proof.RowFirst
public import proofs.«01_k».proof.Proof.RowSecond

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A trip starts the next gathers exactly where another trip follows. -/
theorem more_iff : ∀ t : Fin k1_t1_loop.trips, k1_cond1 t = 1#1 ↔ t.val + 1 < 40 := by decide +kernel

section Run

variable {d : Dev nD} {c : Fin τ.nSC} {s : Fin τ.nSub} {bd : Option 𝒱₀.V}
variable (Ta Tb : Memref sig .scVector .hbm S10000x128 .f32) (Ls Ld : Memref sig .scVector .vmem S10240 .i32)
  (A0 B0 A1 B1 : Memref sig .scVector .vmem S128x128 .f32) (R : Memref sig .scVector .vmem S10240 .f32)
  (M : Memref sig .scVector .vmem S16x16 .f32) (sA0 sB0 sA1 sB1 : DmaSem sig)

/-- The first part of a trip: the second slot's gathers issued, the first slot's landed and scored, the first slot's
    next gathers issued if there are any, the second slot's landed. -/
def firstHalf (hA0 : A0.view.WordExact) (hB0 : B0.view.WordExact) (hA1 : A1.view.WordExact) (hB1 : B1.view.WordExact)
    (t : Fin k1_t1_loop.trips) (body : Fin k1_t2_loop.trips → Unit → TileProg (F := F) c s Unit) (v : BitVec 32) : TileProg (F := F) c s (BitVec 32) := do
  SparseCore.enqueueIndirectGather rfl (tableSlice Ta) A1 gathers_S10000x128_S128x128 (listSlice Ls (k1_off2 t) (k1_off2_inb t)) rfl sA1 (View.wordExact_bits rfl) rfl (Or.inl rfl)
  SparseCore.enqueueIndirectGather rfl (tableSlice Tb) B1 gathers_S10000x128_S128x128 (listSlice Ld (k1_off2 t) (k1_off2_inb t)) rfl sB1 (View.wordExact_bits rfl) rfl (Or.inl rfl)
  SparseCore.waitIndirectGather sA0 (tableSlice Ta) A0 (View.wordExact_bits rfl) hA0
  SparseCore.waitIndirectGather sB0 (tableSlice Tb) B0 (View.wordExact_bits rfl) hB0
  Scf.Loop.for k1_t2_loop k1_t2_ok ⟨⟩ body
  if h : k1_cond1 t = 1#1 then do
    SparseCore.enqueueIndirectGather rfl (tableSlice Ta) A0 gathers_S10000x128_S128x128 (listSlice Ls (k1_off12 t) (k1_off12_inb t h)) rfl sA0 (View.wordExact_bits rfl) rfl (Or.inl rfl)
    SparseCore.enqueueIndirectGather rfl (tableSlice Tb) B0 gathers_S10000x128_S128x128 (listSlice Ld (k1_off12 t) (k1_off12_inb t h)) rfl sB0 (View.wordExact_bits rfl) rfl (Or.inl rfl)
    pure ⟨⟩
  else do
    pure ⟨⟩
  SparseCore.waitIndirectGather sA1 (tableSlice Ta) A1 (View.wordExact_bits rfl) hA1
  SparseCore.waitIndirectGather sB1 (tableSlice Tb) B1 (View.wordExact_bits rfl) hB1
  pure v

variable (W : Fin 128 → F .f32) (w : Fin 8 → FVec F S16 .f32)
variable (q0 q1 p0 p1 : PosShare TreeShare)
variable (fta : Buf (Elt F) (Ta.view.loc (V d c s))) (ftb : Buf (Elt F) (Tb.view.loc (V d c s)))
  (fls : Buf (Elt F) (Ls.view.loc (V d c s))) (fld : Buf (Elt F) (Ld.view.loc (V d c s)))
variable (O : CellTallies nD τ sig (HIx 1)) (Ws : Waits sig (HIx 1))

section One
variable (T : Memref sig .scVector .hbm S10000x128 .f32) (L : Memref sig .scVector .vmem S10240 .i32)
  (A : Memref sig .scVector .vmem S128x128 .f32) (sem : DmaSem sig)
variable (qt ql : PosShare TreeShare) (ft : Buf (Elt F) (T.view.loc (V d c s))) (fl : Buf (Elt F) (L.view.loc (V d c s)))

/-- No gather in progress into a row buffer: the buffer, the shares and the semaphore are in hand. -/
def idle : sProp (MM F) :=
  iprop((∃ fa, A.view.loc (V d c s) ↦[A.view.set]{fullShare} fa) ∗ (T.view.loc (V d c s) ↦[T.view.set]{qt} ft)
    ∗ (L.view.loc (V d c s) ↦[L.view.set]{ql} fl) ∗ semVal (V d c s, SemLoc.dma sem) 0)

/-- Before trip `n` the first slot's gather is in progress, unless no trip is left. -/
def slot (n : Nat) : sProp (MM F) := if n < 40 then gath T L A sem qt ql ft fl (256 * n) else idle T L A sem qt ql ft fl

/-- A landed gather, kept apart from its rows. -/
theorem landed_open (off : Nat) :
    iprop(landed T L A qt ql ft fl off ∗ semVal (V d c s, SemLoc.dma sem) 0)
      ⊢ iprop(∃ fa, ⌜RowsOf (T.view.read (Elt F) ft) (L.view.read (Elt F) fl) off (A.view.read (Elt F) fa)⌝
        ∗ (A.view.loc (V d c s) ↦[A.view.set]{fullShare} fa)
        ∗ ((A.view.loc (V d c s) ↦[A.view.set]{fullShare} fa) -∗ idle T L A sem qt ql ft fl)) := by
  unfold landed idle
  iintro ⟨⟨⟨%fa, %hfa, HA⟩, HT, HL⟩, Hs⟩
  iexists fa
  isplitr [HA HT HL Hs]; · ipureintro; exact hfa
  isplitl [HA]; · iexact HA
  iintro HA
  isplitl [HA]; · iexists fa; iexact HA
  isplitl [HT]; · iexact HT
  isplitl [HL]; · iexact HL
  iexact Hs

/-- The issue of a gather from idle. -/
theorem wp_issue_idle {β : Type} {Q : β → sProp (MM F)} (k : PUnit → TileProg (F := F) c s β)
    (off : Fin 1 → Nat) (hoff : ∀ a, off a + S128.size a ≤ S10240.size a) (hin : InRows (L.view.read (Elt F) fl)) (hN : CreditRows A)
    (n : Nat) (hn' : off 0 = n) (hp hn hsrc he hsp hr) :
    idle T L A sem qt ql ft fl
      ⊢ iprop((gath T L A sem qt ql ft fl n -∗ wp frame (wpE (defs₀ (F := F)) 𝒱₀ (V d c s) bd) Set.univ (k ⟨⟩) Q)
        -∗ wp frame (wpE (defs₀ (F := F)) 𝒱₀ (V d c s) bd) Set.univ
          (SparseCore.enqueueIndirectGather hp (tableSlice T) A gathers_S10000x128_S128x128 (listSlice L off hoff) hn sem hsrc he hsp hr >>= k) Q) := by
  subst hn'
  unfold idle
  iintro ⟨⟨%fa, HA⟩, H⟩
  iapply (wp_issue T L A sem qt ql ft fl k fa off hoff hin hN hp hn hsrc he hsp hr)
  isplitl [HA]; · iexact HA
  iexact H

end One

/-- What both halves of a trip hold beside the slots. -/
def rest (n : Nat) : sProp (MM F) :=
  iprop(matFree (d := d) (c := c) (s := s) M
    ∗ scores (d := d) (c := c) (s := s) R W (Ta.view.read (Elt F) fta) (Tb.view.read (Elt F) ftb) (Ls.view.read (Elt F) fls) (Ld.view.read (Elt F) fld) n)

/-- Between trips. -/
def between (n : Nat) : sProp (MM F) :=
  iprop(slot Ta Ls A0 sA0 q0 p0 fta fls n ∗ slot Tb Ld B0 sB0 q0 p0 ftb fld n
    ∗ idle Ta Ls A1 sA1 q1 p1 fta fls ∗ idle Tb Ld B1 sB1 q1 p1 ftb fld
    ∗ rest Ta Tb Ls Ld R M W fta ftb fls fld (256 * n) ∗ owing (d := d) (c := c) (s := s) O Ws ∗ Transfers.MayWaits (V d c s) (default : HIx 1) O)

/-- In the middle of trip `n`: the second slot's gathers are in, its scores are not. -/
def middle (n : Nat) : sProp (MM F) :=
  iprop(slot Ta Ls A0 sA0 q0 p0 fta fls (n + 1) ∗ slot Tb Ld B0 sB0 q0 p0 ftb fld (n + 1)
    ∗ (landed Ta Ls A1 q1 p1 fta fls (256 * n + 128) ∗ semVal (V d c s, SemLoc.dma sA1) 0)
    ∗ (landed Tb Ld B1 q1 p1 ftb fld (256 * n + 128) ∗ semVal (V d c s, SemLoc.dma sB1) 0)
    ∗ rest Ta Tb Ls Ld R M W fta ftb fls fld (256 * n + 128) ∗ owing (d := d) (c := c) (s := s) O Ws ∗ Transfers.MayWaits (V d c s) (default : HIx 1) O)

/-- The last two waits of the first part of a trip. -/
def lastDrains (hA1 : A1.view.WordExact) (hB1 : B1.view.WordExact) (v : BitVec 32) : TileProg (F := F) c s (BitVec 32) := do
  SparseCore.waitIndirectGather sA1 (tableSlice Ta) A1 (View.wordExact_bits rfl) hA1
  SparseCore.waitIndirectGather sB1 (tableSlice Tb) B1 (View.wordExact_bits rfl) hB1
  pure v

/-- They bring the second slot's rows in. -/
theorem wp_lastDrains (hA1 : A1.view.WordExact) (hB1 : B1.view.WordExact) (n : Nat) (v : BitVec 32) :
    iprop(slot Ta Ls A0 sA0 q0 p0 fta fls (n + 1) ∗ slot Tb Ld B0 sB0 q0 p0 ftb fld (n + 1)
      ∗ gath Ta Ls A1 sA1 q1 p1 fta fls (256 * n + 128) ∗ gath Tb Ld B1 sB1 q1 p1 ftb fld (256 * n + 128)
      ∗ rest Ta Tb Ls Ld R M W fta ftb fls fld (256 * n + 128) ∗ owing (d := d) (c := c) (s := s) O Ws
      ∗ Transfers.MayWaits (V d c s) (default : HIx 1) O)
      ⊢ wp frame (wpE (defs₀ (F := F)) 𝒱₀ (V d c s) bd) Set.univ (lastDrains Ta Tb A1 B1 sA1 sB1 hA1 hB1 v)
        fun _ => middle Ta Tb Ls Ld A0 B0 A1 B1 R M sA0 sB0 sA1 sB1 W q0 q1 p0 p1 fta ftb fls fld O Ws n := by
  unfold lastDrains middle
  iintro ⟨HA0, HB0, HA1, HB1, HR, HO, #Hmw⟩
  iapply (wp_drain Ta Ls A1 sA1 q1 p1 fta fls _ _ O Ws) $$ [HA1 HO]
  · isplitl [HA1]; · iexact HA1
    isplitl [HO]; · iexact HO
    iexact Hmw
  iintro ⟨HA1, HsA1, HO⟩
  iapply (wp_drain Tb Ld B1 sB1 q1 p1 ftb fld _ _ O Ws) $$ [HB1 HO]
  · isplitl [HB1]; · iexact HB1
    isplitl [HO]; · iexact HO
    iexact Hmw
  iintro ⟨HB1, HsB1, HO⟩
  erw [wp_pure]
  imodintro
  isplitl [HA0]; · iexact HA0
  isplitl [HB0]; · iexact HB0
  isplitl [HA1 HsA1]; · isplitl [HA1] <;> iassumption
  isplitl [HB1 HsB1]; · isplitl [HB1] <;> iassumption
  isplitl [HR]; · iexact HR
  isplitl [HO]; · iexact HO
  iexact Hmw

/-- The first part of a trip. -/
theorem wp_firstHalf (hw : Pieces w W) (hs : InRows (Ls.view.read (Elt F) fls)) (hd : InRows (Ld.view.read (Elt F) fld))
    (cA0 : CreditRows A0) (cB0 : CreditRows B0) (cA1 : CreditRows A1) (cB1 : CreditRows B1)
    (hA0 : A0.view.WordExact) (hB0 : B0.view.WordExact) (hA1 : A1.view.WordExact) (hB1 : B1.view.WordExact)
    (t : Fin k1_t1_loop.trips) (body : Fin k1_t2_loop.trips → Unit → TileProg (F := F) c s Unit) (v : BitVec 32)
    (hbody : ∀ g u, body g u = groupProg A0 B0 M R w lanes g (k1_off11 t g) (k1_off11_inb t g)) :
    between Ta Tb Ls Ld A0 B0 A1 B1 R M sA0 sB0 sA1 sB1 W q0 q1 p0 p1 fta ftb fls fld O Ws t.val
      ⊢ wp frame (wpE (defs₀ (F := F)) 𝒱₀ (V d c s) bd) Set.univ
        (firstHalf Ta Tb Ls Ld A0 B0 A1 B1 sA0 sB0 sA1 sB1 hA0 hB0 hA1 hB1 t body v)
        fun _ => middle Ta Tb Ls Ld A0 B0 A1 B1 R M sA0 sB0 sA1 sB1 W q0 q1 p0 p1 fta ftb fls fld O Ws t.val := by
  have ht : t.val < 40 := t.isLt
  have h2 : k1_off2 t 0 = 256 * t.val + 128 := by rw [k1_off2_eq]; rfl
  have h12 : k1_off12 t 0 = 256 * (t.val + 1) := by rw [k1_off12_eq]; rfl
  unfold firstHalf between
  rw [slot, if_pos ht, slot, if_pos ht]
  iintro ⟨HA0, HB0, HA1, HB1, HR, HO, #Hmw⟩
  iapply (wp_issue_idle Ta Ls A1 sA1 q1 p1 fta fls _ (k1_off2 t) (k1_off2_inb t) hs cA1 _ h2) $$ HA1
  iintro HA1
  iapply (wp_issue_idle Tb Ld B1 sB1 q1 p1 ftb fld _ (k1_off2 t) (k1_off2_inb t) hd cB1 _ h2) $$ HB1
  iintro HB1
  iapply (wp_drain Ta Ls A0 sA0 q0 p0 fta fls _ _ O Ws) $$ [HA0 HO]
  · isplitl [HA0]; · iexact HA0
    isplitl [HO]; · iexact HO
    iexact Hmw
  iintro ⟨HA0, HsA0, HO⟩
  iapply (wp_drain Tb Ld B0 sB0 q0 p0 ftb fld _ _ O Ws) $$ [HB0 HO]
  · isplitl [HB0]; · iexact HB0
    isplitl [HO]; · iexact HO
    iexact Hmw
  iintro ⟨HB0, HsB0, HO⟩
  ihave HA0' := (landed_open Ta Ls A0 sA0 q0 p0 fta fls (256 * t.val)) $$ [HA0 HsA0]
  · isplitl [HA0] <;> iassumption
  ihave HB0' := (landed_open Tb Ld B0 sB0 q0 p0 ftb fld (256 * t.val)) $$ [HB0 HsB0]
  · isplitl [HB0] <;> iassumption
  icases HA0' with ⟨%fa, %hfa, HA0, HkA⟩
  icases HB0' with ⟨%fb, %hfb, HB0, HkB⟩
  unfold rest
  icases HR with ⟨HM, HR⟩
  rw [wp_bind]
  iapply (wp_wand_r frame (wpE (defs₀ (F := F)) 𝒱₀ (V d c s) bd) Set.univ)
  isplitl [HA0 HB0 HM HR]
  · iapply (wp_groups A0 B0 M R W _ _ _ _ hw (256 * t.val) fa fb hfa hfb (k1_off11 t) (k1_off11_inb t)
      (fun g => by rw [k1_off11_eq]; rfl) body hbody)
    unfold rowsHeld
    isplitl [HA0 HB0]
    · isplitl [HA0] <;> iassumption
    isplitl [HM] <;> iassumption
  iintro %_ ⟨HAB, HM, HR⟩
  unfold rowsHeld
  icases HAB with ⟨HA0, HB0⟩
  ihave HA0 := HkA $$ HA0
  ihave HB0 := HkB $$ HB0
  by_cases hm : k1_cond1 t = 1#1
  · have hlt : t.val + 1 < 40 := (more_iff t).mp hm
    dsimp only
    rw [dif_pos hm]
    iapply (wp_issue_idle Ta Ls A0 sA0 q0 p0 fta fls _ (k1_off12 t) (k1_off12_inb t hm) hs cA0 _ h12) $$ HA0
    iintro HA0
    iapply (wp_issue_idle Tb Ld B0 sB0 q0 p0 ftb fld _ (k1_off12 t) (k1_off12_inb t hm) hd cB0 _ h12) $$ HB0
    iintro HB0
    iapply (wp_lastDrains Ta Tb Ls Ld A0 B0 A1 B1 R M sA0 sB0 sA1 sB1 W q0 q1 p0 p1 fta ftb fls fld O Ws hA1 hB1 t.val v)
    rw [slot, if_pos hlt, slot, if_pos hlt]
    unfold rest
    isplitl [HA0]; · iexact HA0
    isplitl [HB0]; · iexact HB0
    isplitl [HA1]; · iexact HA1
    isplitl [HB1]; · iexact HB1
    isplitl [HM HR]; · isplitl [HM] <;> iassumption
    isplitl [HO]; · iexact HO
    iexact Hmw
  · have hlt : ¬ t.val + 1 < 40 := fun h => hm ((more_iff t).mpr h)
    dsimp only
    rw [dif_neg hm]
    iapply (wp_lastDrains Ta Tb Ls Ld A0 B0 A1 B1 R M sA0 sB0 sA1 sB1 W q0 q1 p0 p1 fta ftb fls fld O Ws hA1 hB1 t.val v)
    rw [slot, if_neg hlt, slot, if_neg hlt]
    unfold rest
    isplitl [HA0]; · iexact HA0
    isplitl [HB0]; · iexact HB0
    isplitl [HA1]; · iexact HA1
    isplitl [HB1]; · iexact HB1
    isplitl [HM HR]; · isplitl [HM] <;> iassumption
    isplitl [HO]; · iexact HO
    iexact Hmw

/-- The second part of a trip: the second slot's chunk scored. -/
theorem wp_secondHalf (hw : Pieces w W) (t : Fin k1_t1_loop.trips) (body : Fin k1_t2_loop.trips → Unit → TileProg (F := F) c s Unit)
    (off : Fin k1_t2_loop.trips → Fin 1 → Nat) (hoff : ∀ g a, off g a + S16.size a ≤ S10240.size a) (ho : ∀ g, off g 0 = 256 * t.val + 128 + 16 * g.val)
    (hbody : ∀ g u, body g u = groupProg A1 B1 M R w lanes g (off g) (hoff g)) :
    middle Ta Tb Ls Ld A0 B0 A1 B1 R M sA0 sB0 sA1 sB1 W q0 q1 p0 p1 fta ftb fls fld O Ws t.val
      ⊢ wp frame (wpE (defs₀ (F := F)) 𝒱₀ (V d c s) bd) Set.univ
        (Scf.Loop.for k1_t2_loop k1_t2_ok () body >>= fun _ => pure ())
        fun _ => between Ta Tb Ls Ld A0 B0 A1 B1 R M sA0 sB0 sA1 sB1 W q0 q1 p0 p1 fta ftb fls fld O Ws (t.val + 1) := by
  unfold middle between rest
  iintro ⟨HA0, HB0, HA1, HB1, ⟨HM, HR⟩, HO, Hmw⟩
  ihave HA1' := (landed_open Ta Ls A1 sA1 q1 p1 fta fls (256 * t.val + 128)) $$ HA1
  ihave HB1' := (landed_open Tb Ld B1 sB1 q1 p1 ftb fld (256 * t.val + 128)) $$ HB1
  icases HA1' with ⟨%fa, %hfa, HA1, HkA⟩
  icases HB1' with ⟨%fb, %hfb, HB1, HkB⟩
  rw [wp_bind]
  iapply (wp_wand_r frame (wpE (defs₀ (F := F)) 𝒱₀ (V d c s) bd) Set.univ)
  isplitl [HA1 HB1 HM HR]
  · iapply (wp_groups A1 B1 M R W _ _ _ _ hw (256 * t.val + 128) fa fb hfa hfb off hoff ho body hbody)
    unfold rowsHeld
    isplitl [HA1 HB1]
    · isplitl [HA1] <;> iassumption
    isplitl [HM] <;> iassumption
  iintro %_ ⟨HAB, HM, HR⟩
  unfold rowsHeld
  icases HAB with ⟨HA1, HB1⟩
  ihave HA1 := HkA $$ HA1
  ihave HB1 := HkB $$ HB1
  rw [show 256 * t.val + 128 + 128 = 256 * (t.val + 1) from by omega]
  erw [wp_pure]
  imodintro
  isplitl [HA0]; · iexact HA0
  isplitl [HB0]; · iexact HB0
  isplitl [HA1]; · iexact HA1
  isplitl [HB1]; · iexact HB1
  isplitl [HM HR]; · isplitl [HM] <;> iassumption
  isplitl [HO]; · iexact HO
  iexact Hmw

/-- One trip. -/
theorem wp_trip (hw : Pieces w W) (hs : InRows (Ls.view.read (Elt F) fls)) (hd : InRows (Ld.view.read (Elt F) fld))
    (cA0 : CreditRows A0) (cB0 : CreditRows B0) (cA1 : CreditRows A1) (cB1 : CreditRows B1)
    (hA0 : A0.view.WordExact) (hB0 : B0.view.WordExact) (hA1 : A1.view.WordExact) (hB1 : B1.view.WordExact)
    (t : Fin k1_t1_loop.trips) (body body' : Fin k1_t2_loop.trips → Unit → TileProg (F := F) c s Unit) (v : BitVec 32)
    (hbody : ∀ g u, body g u = groupProg A0 B0 M R w lanes g (k1_off11 t g) (k1_off11_inb t g))
    (off : Fin k1_t2_loop.trips → Fin 1 → Nat) (hoff : ∀ g a, off g a + S16.size a ≤ S10240.size a) (ho : ∀ g, off g 0 = 256 * t.val + 128 + 16 * g.val)
    (hbody' : ∀ g u, body' g u = groupProg A1 B1 M R w lanes g (off g) (hoff g)) :
    between Ta Tb Ls Ld A0 B0 A1 B1 R M sA0 sB0 sA1 sB1 W q0 q1 p0 p1 fta ftb fls fld O Ws t.val
      ⊢ wp frame (wpE (defs₀ (F := F)) 𝒱₀ (V d c s) bd) Set.univ
        (firstHalf Ta Tb Ls Ld A0 B0 A1 B1 sA0 sB0 sA1 sB1 hA0 hB0 hA1 hB1 t body v >>= fun _ =>
          Scf.Loop.for k1_t2_loop k1_t2_ok () body' >>= fun _ => pure ())
        fun _ => between Ta Tb Ls Ld A0 B0 A1 B1 R M sA0 sB0 sA1 sB1 W q0 q1 p0 p1 fta ftb fls fld O Ws (t.val + 1) := by
  rw [wp_bind]
  refine (wp_firstHalf Ta Tb Ls Ld A0 B0 A1 B1 R M sA0 sB0 sA1 sB1 W w q0 q1 p0 p1 fta ftb fls fld O Ws hw hs hd cA0 cB0 cA1 cB1 hA0 hB0 hA1 hB1
    t body v hbody).trans (wp_mono _ _ _ fun _ => ?_)
  exact wp_secondHalf Ta Tb Ls Ld A0 B0 A1 B1 R M sA0 sB0 sA1 sB1 W w q0 q1 p0 p1 fta ftb fls fld O Ws hw t body' off hoff ho hbody'

end Run

end Cert.Proof.Scores

end
-- ==== Proof.Trip.lean ====
/-
  The loop over pairs of chunks as the program prints it, run with its values.
-/
module

public import proofs.«01_k».proof.Proof.Pair

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid1.Coords) (arg2 : Memref sig .scVector .hbm S10000x128 .f32) (harg2 : arg2.IsWhole) (arg3 : Memref sig .scVector .hbm S10000x128 .f32) (harg3 : arg3.IsWhole) (arg4 : Memref sig .scVector .hbm S327680 .i32) (harg4 : arg4.IsWhole) (arg5 : Memref sig .scVector .hbm S327680 .i32) (harg5 : arg5.IsWhole) (arg6 : Memref sig .scVector .hbm S128 .f32) (harg6 : arg6.IsWhole) (arg7 : Memref sig .scVector .hbm S327680 .f32) (harg7 : arg7.IsWhole) (arg8 : Memref sig .scVector .vmem S10240 .i32) (harg8 : arg8.IsWhole) (arg9 : Memref sig .scVector .vmem S10240 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S10240 .f32) (harg14 : arg14.IsWhole) (arg15 : Memref sig .scVector .vmem S128 .f32) (harg15 : arg15.IsWhole) (arg16 : Memref sig .scVector .vmem S16x16 .f32) (harg16 : arg16.IsWhole) (arg17 arg18 arg19 arg20 r0 r1 r2 r3 : DmaSems sig S_) (v4 v5 v6 v7 v8 v9 v10 v11 : Vec F S16 .f32)

set_option maxRecDepth 100000 in
/-- One trip of the printed pair loop is `firstHalf` and the second scoring loop. -/
theorem t1_eq (t : Fin k1_t1_loop.trips) (u : Unit) :
    k1_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 lanes t u
      = (firstHalf arg2 arg3 arg8 arg9 arg10 arg11 arg12 arg13 arg17.sem arg18.sem arg19.sem arg20.sem
          harg10.wordExact harg11.wordExact harg12.wordExact harg13.wordExact t
          (k1_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 lanes 0#32 1#32 t)
          (Scalar.muli (Scf.iv 0#32 1#32 t) 2#32) >>= fun _ =>
        Scf.Loop.for k1_t2_loop k1_t2_ok ()
          (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 lanes t) >>= fun _ => pure ()) := by
  unfold k1_t1_body
  rw [k1_part69_eq_skeleton]
  rfl

variable (d : Fin nD) (bd : Option 𝒱₀.V)
variable (W : Fin 128 → F .f32) (q0 q1 p0 p1 : PosShare TreeShare)
variable (fta : Buf (Elt F) (arg2.view.loc (V d ((i 0).castLE hcore1) ((i 1).castLE hsub1)))) (ftb : Buf (Elt F) (arg3.view.loc (V d ((i 0).castLE hcore1) ((i 1).castLE hsub1))))
  (fls : Buf (Elt F) (arg8.view.loc (V d ((i 0).castLE hcore1) ((i 1).castLE hsub1)))) (fld : Buf (Elt F) (arg9.view.loc (V d ((i 0).castLE hcore1) ((i 1).castLE hsub1))))
variable (O : CellTallies nD τ sig (HIx 1)) (Ws : Waits sig (HIx 1))

/-- The whole printed pair loop: from no chunk scored to every chunk scored. -/
theorem wp_pairs (hw : Pieces ![v4, v5, v6, v7, v8, v9, v10, v11] W) (hs : InRows (arg8.view.read (Elt F) fls)) (hd : InRows (arg9.view.read (Elt F) fld))
    (cA0 : CreditRows arg10) (cB0 : CreditRows arg11) (cA1 : CreditRows arg12) (cB1 : CreditRows arg13) :
    between (d := d) arg2 arg3 arg8 arg9 arg10 arg11 arg12 arg13 arg14 arg16 arg17.sem arg18.sem arg19.sem arg20.sem W q0 q1 p0 p1 fta ftb fls fld O Ws 0
      ⊢ wp frame (wpE (defs₀ (F := F)) 𝒱₀ (V d ((i 0).castLE hcore1) ((i 1).castLE hsub1)) bd) Set.univ
        (Scf.Loop.for k1_t1_loop k1_t1_ok () (k1_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 lanes))
        fun _ => between (d := d) arg2 arg3 arg8 arg9 arg10 arg11 arg12 arg13 arg14 arg16 arg17.sem arg18.sem arg19.sem arg20.sem W q0 q1 p0 p1 fta ftb fls fld O Ws 40 := by
  refine .trans ?_ (Scf.wp_for frame (wpE (defs₀ (F := F)) 𝒱₀ (V d ((i 0).castLE hcore1) ((i 1).castLE hsub1)) bd) Set.univ _ _ _ k1_t1_ok () _
    (fun n _ => between (d := d) arg2 arg3 arg8 arg9 arg10 arg11 arg12 arg13 arg14 arg16 arg17.sem arg18.sem arg19.sem arg20.sem W q0 q1 p0 p1 fta ftb fls fld O Ws n)
    (fun t u => ?_))
  · iintro H
    isplitl [H]; · iexact H
    iintro %_ H
    iexact H
  · rw [t1_eq]
    exact wp_trip arg2 arg3 arg8 arg9 arg10 arg11 arg12 arg13 arg14 arg16 arg17.sem arg18.sem arg19.sem arg20.sem W _ q0 q1 p0 p1 fta ftb fls fld O Ws
      hw hs hd cA0 cB0 cA1 cB1 _ _ _ _ t _ _ _
      (fun g u => t2_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 lanes 0#32 1#32 t g u)
      (fun g => k1_off21 t g) (fun g => k1_off21_inb t g) (fun g => by have := congrFun (k1_off21_eq t g) 0; rw [this]; simp; omega)
      (fun g u => t3_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 v4 v5 v6 v7 v8 v9 v10 v11 lanes t g u)

end Cert.Proof.Scores

end
-- ==== Proof.Tile.lean ====
/-
  One tile's run of the scoring kernel, with its values.
-/
module

public import proofs.«01_k».proof.Proof.Copy
public import proofs.«01_k».proof.Proof.Trip

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Run

variable (i : grid1.Coords) (arg2 : Memref sig .scVector .hbm S10000x128 .f32) (harg2 : arg2.IsWhole) (arg3 : Memref sig .scVector .hbm S10000x128 .f32) (harg3 : arg3.IsWhole) (arg4 : Memref sig .scVector .hbm S327680 .i32) (harg4 : arg4.IsWhole) (arg5 : Memref sig .scVector .hbm S327680 .i32) (harg5 : arg5.IsWhole) (arg6 : Memref sig .scVector .hbm S128 .f32) (harg6 : arg6.IsWhole) (arg7 : Memref sig .scVector .hbm S327680 .f32) (harg7 : arg7.IsWhole) (arg8 : Memref sig .scVector .vmem S10240 .i32) (harg8 : arg8.IsWhole) (arg9 : Memref sig .scVector .vmem S10240 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S10240 .f32) (harg14 : arg14.IsWhole) (arg15 : Memref sig .scVector .vmem S128 .f32) (harg15 : arg15.IsWhole) (arg16 : Memref sig .scVector .vmem S16x16 .f32) (harg16 : arg16.IsWhole) (arg17 arg18 arg19 arg20 r0 r1 r2 r3 : DmaSems sig S_)
variable (d : Dev nD) (bd : Option 𝒱₀.V)

/-- The tile's block of a long vector in main memory. -/
abbrev blockOf {e : EltTy} (M : Memref sig .scVector .hbm S327680 e) : Memref sig .scVector .hbm S10240 e :=
  M.slice (Rect.unit (s := S327680) (k1_off1 i) S10240.size (k1_off1_inb i)) (fun _ => rfl)

/-- The eight loads of a 128-word buffer are its eight pieces. -/
theorem pieces_loads (m : Memref sig .scVector .vmem S128 .f32) (f : Buf (Elt F) (m.view.loc (V d ((i 0).castLE hcore1) ((i 1).castLE hsub1)))) (W : Fin 128 → F .f32)
    (hW : ∀ j, m.view.read (Elt F) f (ix1 j) = W j) :
    Pieces (F := F) ![m.view.readAt (Elt F) (Rect.unit (s := S128) ![0] S16.size inb_S128_S16_0).toLoadRect f, m.view.readAt (Elt F) (Rect.unit (s := S128) ![16] S16.size inb_S128_S16_16).toLoadRect f, m.view.readAt (Elt F) (Rect.unit (s := S128) ![32] S16.size inb_S128_S16_32).toLoadRect f, m.view.readAt (Elt F) (Rect.unit (s := S128) ![48] S16.size inb_S128_S16_48).toLoadRect f, m.view.readAt (Elt F) (Rect.unit (s := S128) ![64] S16.size inb_S128_S16_64).toLoadRect f, m.view.readAt (Elt F) (Rect.unit (s := S128) ![80] S16.size inb_S128_S16_80).toLoadRect f, m.view.readAt (Elt F) (Rect.unit (s := S128) ![96] S16.size inb_S128_S16_96).toLoadRect f, m.view.readAt (Elt F) (Rect.unit (s := S128) ![112] S16.size inb_S128_S16_112).toLoadRect f] W := by
  have key : ∀ (n : Fin 8) (off : Fin 1 → Nat) (h : ∀ a, off a + S16.size a ≤ S128.size a) (j : Fin 16), off 0 = 16 * n.val →
      m.view.readAt (Elt F) (Rect.unit (s := S128) off S16.size h).toLoadRect f (Shape.ofLane (d := S16.size) j) = W (feat n j) := by
    intro n off h j hoff
    rw [← hW, View.readAt_apply]
    refine congrArg _ (funext fun a => Fin.ext ?_)
    obtain rfl : a = 0 := Subsingleton.elim _ _
    show off 0 + 1 * j.val = 16 * n.val + j.val
    omega
  intro n j
  match n with
  | 0 => exact key 0 _ _ j rfl
  | 1 => exact key 1 _ _ j rfl
  | 2 => exact key 2 _ _ j rfl
  | 3 => exact key 3 _ _ j rfl
  | 4 => exact key 4 _ _ j rfl
  | 5 => exact key 5 _ _ j rfl
  | 6 => exact key 6 _ _ j rfl
  | 7 => exact key 7 _ _ j rfl

/-- The buffers and counters a tile's run starts from and gives back, its output block and its tally apart. -/
def tileHeld : sProp (MM F) :=
  iprop((∃ f, arg8.view.loc (V d ((i 0).castLE hcore1) ((i 1).castLE hsub1)) ↦[arg8.view.set]{fullShare} f) ∗ (∃ f, arg9.view.loc (V d ((i 0).castLE hcore1) ((i 1).castLE hsub1)) ↦[arg9.view.set]{fullShare} f) ∗ (∃ f, arg10.view.loc (V d ((i 0).castLE hcore1) ((i 1).castLE hsub1)) ↦[arg10.view.set]{fullShare} f)
    ∗ (∃ f, arg11.view.loc (V d ((i 0).castLE hcore1) ((i 1).castLE hsub1)) ↦[arg11.view.set]{fullShare} f) ∗ (∃ f, arg12.view.loc (V d ((i 0).castLE hcore1) ((i 1).castLE hsub1)) ↦[arg12.view.set]{fullShare} f) ∗ (∃ f, arg13.view.loc (V d ((i 0).castLE hcore1) ((i 1).castLE hsub1)) ↦[arg13.view.set]{fullShare} f)
    ∗ (∃ f, arg14.view.loc (V d ((i 0).castLE hcore1) ((i 1).castLE hsub1)) ↦[arg14.view.set]{fullShare} f) ∗ (∃ f, arg15.view.loc (V d ((i 0).castLE hcore1) ((i 1).castLE hsub1)) ↦[arg15.view.set]{fullShare} f) ∗ matFree (d := d) (c := (i 0).castLE hcore1) (s := (i 1).castLE hsub1) arg16
    ∗ semVal ((V d ((i 0).castLE hcore1) ((i 1).castLE hsub1)), SemLoc.dma arg17.sem) 0 ∗ semVal ((V d ((i 0).castLE hcore1) ((i 1).castLE hsub1)), SemLoc.dma arg18.sem) 0 ∗ semVal ((V d ((i 0).castLE hcore1) ((i 1).castLE hsub1)), SemLoc.dma arg19.sem) 0 ∗ semVal ((V d ((i 0).castLE hcore1) ((i 1).castLE hsub1)), SemLoc.dma arg20.sem) 0
    ∗ semVal ((V d ((i 0).castLE hcore1) ((i 1).castLE hsub1)), SemLoc.dma r0.sem) 0 ∗ semVal ((V d ((i 0).castLE hcore1) ((i 1).castLE hsub1)), SemLoc.dma r1.sem) 0 ∗ semVal ((V d ((i 0).castLE hcore1) ((i 1).castLE hsub1)), SemLoc.dma r2.sem) 0 ∗ semVal ((V d ((i 0).castLE hcore1) ((i 1).castLE hsub1)), SemLoc.dma r3.sem) 0)

variable (q : PosShare TreeShare)
variable (fta : Buf (Elt F) (arg2.view.loc (V d ((i 0).castLE hcore1) ((i 1).castLE hsub1)))) (ftb : Buf (Elt F) (arg3.view.loc (V d ((i 0).castLE hcore1) ((i 1).castLE hsub1))))
  (fms : Buf (Elt F) (arg4.view.loc (V d ((i 0).castLE hcore1) ((i 1).castLE hsub1)))) (fmd : Buf (Elt F) (arg5.view.loc (V d ((i 0).castLE hcore1) ((i 1).castLE hsub1)))) (fmw : Buf (Elt F) (arg6.view.loc (V d ((i 0).castLE hcore1) ((i 1).castLE hsub1))))
variable (O : CellTallies nD τ sig (HIx 1)) (Ws : Waits sig (HIx 1))

/-- The read shares a tile works from. -/
def tileRead : sProp (MM F) :=
  iprop((arg2.view.loc (V d ((i 0).castLE hcore1) ((i 1).castLE hsub1)) ↦[arg2.view.set]{q} fta) ∗ (arg3.view.loc (V d ((i 0).castLE hcore1) ((i 1).castLE hsub1)) ↦[arg3.view.set]{q} ftb)
    ∗ (arg4.view.loc (V d ((i 0).castLE hcore1) ((i 1).castLE hsub1)) ↦[arg4.view.set]{q} fms) ∗ (arg5.view.loc (V d ((i 0).castLE hcore1) ((i 1).castLE hsub1)) ↦[arg5.view.set]{q} fmd) ∗ (arg6.view.loc (V d ((i 0).castLE hcore1) ((i 1).castLE hsub1)) ↦[arg6.view.set]{q} fmw))

/-- The scores of the tile's block of edges. -/
def tileScore (x : Fin 10240) : F .f32 :=
  scoreAt (fun f => arg6.view.read (Elt F) fmw (ix1 f)) (arg2.view.read (Elt F) fta) (arg3.view.read (Elt F) ftb)
    ((blockOf i arg4).view.read (Elt F) fms) ((blockOf i arg5).view.read (Elt F) fmd) x

/-- A share of a memref's buffer as two read shares and what is left. -/
theorem two_shares {sp : Space} {sh : Shape} {e : EltTy} (m : Memref sig .scVector sp sh e) (q : PosShare TreeShare) (f : Buf (Elt F) (m.view.loc (V d ((i 0).castLE hcore1) ((i 1).castLE hsub1)))) :
    (m.view.loc (V d ((i 0).castLE hcore1) ((i 1).castLE hsub1)) ↦[m.view.set]{q} f : sProp (MM F))
      ⊣⊢ iprop((m.view.loc (V d ((i 0).castLE hcore1) ((i 1).castLE hsub1)) ↦[m.view.set]{Transfers.shareDrop q 2} f)
        ∗ (m.view.loc (V d ((i 0).castLE hcore1) ((i 1).castLE hsub1)) ↦[m.view.set]{Transfers.shareTokN q 0} f) ∗ (m.view.loc (V d ((i 0).castLE hcore1) ((i 1).castLE hsub1)) ↦[m.view.set]{Transfers.shareTokN q 1} f)) := by
  have h : (m.view.loc (V d ((i 0).castLE hcore1) ((i 1).castLE hsub1)) ↦[m.view.set]{q} f : sProp (MM F)) ⊣⊢ _ := Transfers.pointsTo_toks_range q 2
  rw [show Finset.range 2 = {0, 1} from rfl, SparseCore.bigSep_insert' (by decide), bigSep_singleton] at h
  exact h

set_option maxHeartbeats 4000000 in
/-- A tile's run: its block of the scores, everything else as it was. -/
theorem wp_tile (hs : InRows ((blockOf i arg4).view.read (Elt F) fms)) (hd : InRows ((blockOf i arg5).view.read (Elt F) fmd))
    (cA0 : CreditRows arg10) (cB0 : CreditRows arg11) (cA1 : CreditRows arg12) (cB1 : CreditRows arg13) :
    iprop(tileHeld i arg8 arg9 arg10 arg11 arg12 arg13 arg14 arg15 arg16 arg17 arg18 arg19 arg20 r0 r1 r2 r3 d
        ∗ tileRead i arg2 arg3 arg4 arg5 arg6 d q fta ftb fms fmd fmw
        ∗ (∃ f, (blockOf i arg7).view.loc (V d ((i 0).castLE hcore1) ((i 1).castLE hsub1)) ↦[(blockOf i arg7).view.set]{fullShare} f)
        ∗ owing (d := d) (c := (i 0).castLE hcore1) (s := (i 1).castLE hsub1) O Ws ∗ Transfers.MayWaits (V d ((i 0).castLE hcore1) ((i 1).castLE hsub1)) (default : HIx 1) O)
      ⊢ wp frame (wpE (defs₀ (F := F)) 𝒱₀ (V d ((i 0).castLE hcore1) ((i 1).castLE hsub1)) bd) Set.univ (cc1_sc_scores i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3)
        fun _ => iprop(tileHeld i arg8 arg9 arg10 arg11 arg12 arg13 arg14 arg15 arg16 arg17 arg18 arg19 arg20 r0 r1 r2 r3 d
          ∗ tileRead i arg2 arg3 arg4 arg5 arg6 d q fta ftb fms fmd fmw
          ∗ (∃ fo, ⌜∀ x, (blockOf i arg7).view.read (Elt F) fo (ix1 x) = tileScore i arg2 arg3 arg4 arg5 arg6 d fta ftb fms fmd fmw x⌝
            ∗ ((blockOf i arg7).view.loc (V d ((i 0).castLE hcore1) ((i 1).castLE hsub1)) ↦[(blockOf i arg7).view.set]{fullShare} fo))
          ∗ owing (d := d) (c := (i 0).castLE hcore1) (s := (i 1).castLE hsub1) O Ws) := by
  rw [cc1_sc_scores_eq_skeleton]
  unfold cc1_sc_scores_skel
  rw [k1_part70_eq_skeleton]
  unfold k1_part70_skel tileHeld tileRead
  simp only [bind_assoc]
  iintro ⟨⟨H8, H9, H10, H11, H12, H13, ⟨%f14, H14⟩, H15, H16, S17, S18, S19, S20, R0, R1, R2, R3⟩, ⟨Ta, Tb, Ms, Md, Mw⟩, Mo, HO, #Hmw⟩
  iapply (wp_copy arg6 arg15 r0.sem _ q fmw arg6.view.set (Finset.Subset.refl _) O Ws (by decide)) $$ [Mw H15 R0 HO]
  · isplitl [Mw]; · iexact Mw
    isplitl [H15]; · iexact H15
    isplitl [R0]; · iexact R0
    isplitl [HO]; · iexact HO
    iexact Hmw
  iintro ⟨Mw, ⟨%f15, %h15, H15⟩, R0, HO⟩
  iapply (wp_copy (blockOf i arg4) arg8 r1.sem _ q fms arg4.view.set (View.set_slice_subset _ _) O Ws (by decide)) $$ [Ms H8 R1 HO]
  · isplitl [Ms]; · iexact Ms
    isplitl [H8]; · iexact H8
    isplitl [R1]; · iexact R1
    isplitl [HO]; · iexact HO
    iexact Hmw
  iintro ⟨Ms, ⟨%f8, %h8, H8⟩, R1, HO⟩
  iapply (wp_copy (blockOf i arg5) arg9 r2.sem _ q fmd arg5.view.set (View.set_slice_subset _ _) O Ws (by decide)) $$ [Md H9 R2 HO]
  · isplitl [Md]; · iexact Md
    isplitl [H9]; · iexact H9
    isplitl [R2]; · iexact R2
    isplitl [HO]; · iexact HO
    iexact Hmw
  iintro ⟨Md, ⟨%f9, %h9, H9⟩, R2, HO⟩
  rw [← h8] at hs
  rw [← h9] at hd
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  iapply (wp_load 𝒱₀ (V d ((i 0).castLE hcore1) ((i 1).castLE hsub1)) bd Set.univ (m := arg15) (S := arg15.view.set) (View.setOn_subset_set _ _)) $$ H15
  iintro H15
  have hw := pieces_loads i d arg15 f15 (fun f => arg6.view.read (Elt F) fmw (ix1 f)) (fun j => by rw [h15])
  ihave Ta := (two_shares i d arg2 q fta).1 $$ Ta
  ihave Tb := (two_shares i d arg3 q ftb).1 $$ Tb
  ihave H8 := (two_shares i d arg8 fullShare f8).1 $$ H8
  ihave H9 := (two_shares i d arg9 fullShare f9).1 $$ H9
  icases Ta with ⟨TaD, Ta0, Ta1⟩
  icases Tb with ⟨TbD, Tb0, Tb1⟩
  icases H8 with ⟨H8D, H80, H81⟩
  icases H9 with ⟨H9D, H90, H91⟩
  iapply (wp_issue_idle arg2 arg8 arg10 arg17.sem _ _ fta f8 _ ![0] inb_S10240_S128_0 hs cA0 0 rfl rfl rfl (View.wordExact_bits rfl) rfl (Or.inl rfl) (by decide)) $$ [H10 Ta0 H80 S17]
  · unfold idle
    isplitl [H10]; · iexact H10
    isplitl [Ta0]; · iexact Ta0
    isplitl [H80]; · iexact H80
    iexact S17
  iintro HA0
  iapply (wp_issue_idle arg3 arg9 arg11 arg18.sem _ _ ftb f9 _ ![0] inb_S10240_S128_0 hd cB0 0 rfl rfl rfl (View.wordExact_bits rfl) rfl (Or.inl rfl) _) $$ [H11 Tb0 H90 S18]
  · unfold idle
    isplitl [H11]; · iexact H11
    isplitl [Tb0]; · iexact Tb0
    isplitl [H90]; · iexact H90
    iexact S18
  iintro HB0
  rw [wp_bind]
  iapply (wp_wand_r frame (wpE (defs₀ (F := F)) 𝒱₀ (V d ((i 0).castLE hcore1) ((i 1).castLE hsub1)) bd) Set.univ)
  isplitl [HA0 HB0 H12 Ta1 H81 S19 H13 Tb1 H91 S20 H16 H14 HO]
  · iapply (wp_pairs i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 r0 r1 r2 r3 _ _ _ _ _ _ _ _ d bd _ _ _ _ _ fta ftb f8 f9 O Ws hw hs hd cA0 cB0 cA1 cB1)
    unfold between slot
    rw [if_pos (by decide : 0 < 40), if_pos (by decide : 0 < 40)]
    isplitl [HA0]; · iexact HA0
    isplitl [HB0]; · iexact HB0
    isplitl [H12 Ta1 H81 S19]
    · unfold idle
      isplitl [H12]; · iexact H12
      isplitl [Ta1]; · iexact Ta1
      isplitl [H81]; · iexact H81
      iexact S19
    isplitl [H13 Tb1 H91 S20]
    · unfold idle
      isplitl [H13]; · iexact H13
      isplitl [Tb1]; · iexact Tb1
      isplitl [H91]; · iexact H91
      iexact S20
    isplitl [H16 H14]
    · unfold rest scores
      isplitl [H16]; · iexact H16
      iexists f14
      isplitr [H14]
      · ipureintro
        intro x hx
        exact absurd hx (by omega)
      · iexact H14
    isplitl [HO]; · iexact HO
    iexact Hmw
  iintro %_ Hb
  unfold between slot
  rw [if_neg (by decide : ¬ 40 < 40), if_neg (by decide : ¬ 40 < 40)]
  unfold idle rest scores
  icases Hb with ⟨⟨H10, Ta0, H80, S17⟩, ⟨H11, Tb0, H90, S18⟩, ⟨H12, Ta1, H81, S19⟩, ⟨H13, Tb1, H91, S20⟩, ⟨H16, %g14, %h14, H14⟩, HO, -⟩
  iapply (wp_copy arg14 (blockOf i arg7) r3.sem _ fullShare g14 arg14.view.set (Finset.Subset.refl _) O Ws (by decide)) $$ [H14 Mo R3 HO]
  · isplitl [H14]; · iexact H14
    isplitl [Mo]; · iexact Mo
    isplitl [R3]; · iexact R3
    isplitl [HO]; · iexact HO
    iexact Hmw
  iintro ⟨H14, ⟨%fo, %ho, Mo⟩, R3, HO⟩
  erw [wp_pure]
  imodintro
  ihave Ta := (two_shares i d arg2 q fta).2 $$ [TaD Ta0 Ta1]
  · isplitl [TaD]; · iexact TaD
    isplitl [Ta0] <;> iassumption
  ihave Tb := (two_shares i d arg3 q ftb).2 $$ [TbD Tb0 Tb1]
  · isplitl [TbD]; · iexact TbD
    isplitl [Tb0] <;> iassumption
  ihave H8 := (two_shares i d arg8 fullShare f8).2 $$ [H8D H80 H81]
  · isplitl [H8D]; · iexact H8D
    isplitl [H80] <;> iassumption
  ihave H9 := (two_shares i d arg9 fullShare f9).2 $$ [H9D H90 H91]
  · isplitl [H9D]; · iexact H9D
    isplitl [H90] <;> iassumption
  isplitl [H8 H9 H10 H11 H12 H13 H14 H15 H16 S17 S18 S19 S20 R0 R1 R2 R3]
  · isplitl [H8]; · iexists _; iexact H8
    isplitl [H9]; · iexists _; iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexact H16
    isplitl [S17]; · iexact S17
    isplitl [S18]; · iexact S18
    isplitl [S19]; · iexact S19
    isplitl [S20]; · iexact S20
    isplitl [R0]; · iexact R0
    isplitl [R1]; · iexact R1
    isplitl [R2] <;> iassumption
  isplitl [Ta Tb Ms Md Mw]
  · isplitl [Ta]; · iexact Ta
    isplitl [Tb]; · iexact Tb
    isplitl [Ms]; · iexact Ms
    isplitl [Md] <;> iassumption
  isplitl [Mo]
  · iexists fo
    isplitr [Mo]
    · ipureintro
      intro x
      rw [ho, h14 x (by have := x.isLt; omega), h8, h9]
      rfl
    · iexact Mo
  iexact HO

end Run

end Cert.Proof.Scores

end
-- ==== Proof.Task.lean ====
/-
  The tasks of the SparseCore call: what each takes, what each brings back, and that its body does so.
-/
module

public import proofs.«01_k».proof.Proof.Tile

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the arrays the SparseCore call reads: the two tables, the two lists of row numbers, the weights. -/
structure Inputs (F : FTy → Type) where
  ta : S10000x128.Idx → F .f32
  tb : S10000x128.Idx → F .f32
  src : S327680.Idx → BitVec 32
  dst : S327680.Idx → BitVec 32
  w : S128.Idx → F .f32

/-- Both lists name rows of the tables. -/
def Inputs.InRange (I : Inputs F) : Prop := (∀ x, (I.src x).toNat < 10000) ∧ ∀ x, (I.dst x).toNat < 10000

/-- The score of every edge, padding included. -/
def Inputs.score (I : Inputs F) (x : S327680.Idx) : F .f32 :=
  edgeScore (fun f => I.w (ix1 f)) (rowAt I.ta (I.src x)) (rowAt I.tb (I.dst x))

/-- The mesh position of a task. -/
def coordsV (c : Fin (grid1.bound 0)) (s : Fin (grid1.bound 1)) : grid1.Coords :=
  fun | 0 => c | 1 => s | ⟨_ + 2, h⟩ => absurd h (Nat.not_lt.2 (Nat.le_add_left _ _))

/-- The SparseCore of a task. -/
abbrev coreOf (L : grid1.Coords) : Fin τ.nSC := (L 0).castLE hcore1
/-- The vector subcore of a task. -/
abbrev subOf (L : grid1.Coords) : Fin τ.nSub := (L 1).castLE hsub1
/-- The thread a task runs on. -/
abbrev taskThread (d : Dev nD) (L : grid1.Coords) : Thread nD τ := V d (coreOf L) (subOf L)

/-- The block of the score array a task writes. -/
abbrev outRect (L : grid1.Coords) : Rect S327680 := Rect.unit (s := S327680) (k1_off1 L) S10240.size (k1_off1_inb L)
/-- The entries of that block. -/
abbrev outSet (L : grid1.Coords) : Finset S327680.Idx := (outRect L).set

/-- Where the score array lies. -/
abbrev scoreLoc (d : Dev nD) : Loc nD τ sig := (SparseCore.T d).loc main_v15

/-- The five arrays read, at share `q`. -/
def readPts (I : Inputs F) (d : Dev nD) (q : PosShare TreeShare) : sProp (MM F) :=
  iprop(((SparseCore.T d).loc main_v13_0 ↦{q} (I.ta : Buf (Elt F) ((SparseCore.T d).loc main_v13_0)))
    ∗ ((SparseCore.T d).loc main_v13_1 ↦{q} (I.tb : Buf (Elt F) ((SparseCore.T d).loc main_v13_1)))
    ∗ ((SparseCore.T d).loc main_v5 ↦{q} (I.src : Buf (Elt F) ((SparseCore.T d).loc main_v5)))
    ∗ ((SparseCore.T d).loc main_v7 ↦{q} (I.dst : Buf (Elt F) ((SparseCore.T d).loc main_v7)))
    ∗ ((SparseCore.T d).loc main_v14 ↦{q} (I.w : Buf (Elt F) ((SparseCore.T d).loc main_v14))))

/-- A block of the score array at contents `f`. -/
def outPts (d : Dev nD) (L : grid1.Coords) (f : Buf (Elt F) (scoreLoc d)) : sProp (MM F) := scoreLoc d ↦[outSet L]{fullShare} f

section Task

variable (I : Inputs F) (d : Dev nD) (L : grid1.Coords)

omit [FloatOps F] in
/-- A task's block of the score array, as its body slices it. -/
theorem set_block : (blockOf L (Memref.whole main_v15_scv)).view.set = outSet L := by
  show ((View.whole main_v15_scv).slice (outRect L)).set = _
  rw [View.set_slice]; exact Finset.map_refl

omit [FloatOps F] in
/-- The task's scratch buffers, apart from the rest of its own buffers. -/
theorem ownBufs_task :
    (ownBufs (taskThread d L) : sProp (MM F))
      = iprop((∃ f, (taskThread d L).loc cc1_scratch0 ↦{fullShare} f) ∗ (∃ f, (taskThread d L).loc cc1_scratch1 ↦{fullShare} f) ∗ (∃ f, (taskThread d L).loc cc1_scratch2 ↦{fullShare} f) ∗ (∃ f, (taskThread d L).loc cc1_scratch3 ↦{fullShare} f) ∗ (∃ f, (taskThread d L).loc cc1_scratch4 ↦{fullShare} f) ∗ (∃ f, (taskThread d L).loc cc1_scratch5 ↦{fullShare} f) ∗ (∃ f, (taskThread d L).loc cc1_scratch6 ↦{fullShare} f) ∗ (∃ f, (taskThread d L).loc cc1_scratch7 ↦{fullShare} f) ∗ (∃ f, (taskThread d L).loc cc1_scratch8 ↦{fullShare} f)
          ∗ bigSep ((((((((((ownRefs (τ := τ) (.scVector (coreOf L) (subOf L))).erase ((Proc.scVector (coreOf L) (subOf L)).devRef cc1_scratch0)).erase ((Proc.scVector (coreOf L) (subOf L)).devRef cc1_scratch1)).erase ((Proc.scVector (coreOf L) (subOf L)).devRef cc1_scratch2)).erase ((Proc.scVector (coreOf L) (subOf L)).devRef cc1_scratch3)).erase ((Proc.scVector (coreOf L) (subOf L)).devRef cc1_scratch4)).erase ((Proc.scVector (coreOf L) (subOf L)).devRef cc1_scratch5)).erase ((Proc.scVector (coreOf L) (subOf L)).devRef cc1_scratch6)).erase ((Proc.scVector (coreOf L) (subOf L)).devRef cc1_scratch7)).erase ((Proc.scVector (coreOf L) (subOf L)).devRef cc1_scratch8)) fun b => iprop(∃ f, ((d, b) : Loc nD τ sig) ↦{fullShare} f)) := by
  have hne : ∀ a b : Ref sig .scVector, a ≠ b → (Proc.scVector (coreOf L) (subOf L)).devRef a ≠ (Proc.scVector (coreOf L) (subOf L)).devRef b :=
    fun a b h e => h (Proc.devRef_injective _ e)
  have hmem : ∀ (b : Ref sig .scVector), ((Proc.scVector (coreOf L) (subOf L)).devRef b).owner = .proc (Proc.scVector (coreOf L) (subOf L)) →
      (Proc.scVector (coreOf L) (subOf L)).devRef b ∈ ownRefs (τ := τ) (.scVector (coreOf L) (subOf L)) :=
    fun b h => SparseCore.Cfg.mem_ownRefs_of_owner (p := Proc.scVector (coreOf L) (subOf L)) (b := (Proc.scVector (coreOf L) (subOf L)).devRef b) h
  unfold SparseCore.Cfg.ownBufs
  refine (SparseCore.bigSep_erase' (hmem cc1_scratch0 rfl)).trans ?_
  rw [SparseCore.bigSep_erase' (Finset.mem_erase.mpr ⟨hne cc1_scratch1 cc1_scratch0 (by decide), hmem cc1_scratch1 rfl⟩), SparseCore.bigSep_erase' (Finset.mem_erase.mpr ⟨hne cc1_scratch2 cc1_scratch1 (by decide), Finset.mem_erase.mpr ⟨hne cc1_scratch2 cc1_scratch0 (by decide), hmem cc1_scratch2 rfl⟩⟩), SparseCore.bigSep_erase' (Finset.mem_erase.mpr ⟨hne cc1_scratch3 cc1_scratch2 (by decide), Finset.mem_erase.mpr ⟨hne cc1_scratch3 cc1_scratch1 (by decide), Finset.mem_erase.mpr ⟨hne cc1_scratch3 cc1_scratch0 (by decide), hmem cc1_scratch3 rfl⟩⟩⟩), SparseCore.bigSep_erase' (Finset.mem_erase.mpr ⟨hne cc1_scratch4 cc1_scratch3 (by decide), Finset.mem_erase.mpr ⟨hne cc1_scratch4 cc1_scratch2 (by decide), Finset.mem_erase.mpr ⟨hne cc1_scratch4 cc1_scratch1 (by decide), Finset.mem_erase.mpr ⟨hne cc1_scratch4 cc1_scratch0 (by decide), hmem cc1_scratch4 rfl⟩⟩⟩⟩), SparseCore.bigSep_erase' (Finset.mem_erase.mpr ⟨hne cc1_scratch5 cc1_scratch4 (by decide), Finset.mem_erase.mpr ⟨hne cc1_scratch5 cc1_scratch3 (by decide), Finset.mem_erase.mpr ⟨hne cc1_scratch5 cc1_scratch2 (by decide), Finset.mem_erase.mpr ⟨hne cc1_scratch5 cc1_scratch1 (by decide), Finset.mem_erase.mpr ⟨hne cc1_scratch5 cc1_scratch0 (by decide), hmem cc1_scratch5 rfl⟩⟩⟩⟩⟩), SparseCore.bigSep_erase' (Finset.mem_erase.mpr ⟨hne cc1_scratch6 cc1_scratch5 (by decide), Finset.mem_erase.mpr ⟨hne cc1_scratch6 cc1_scratch4 (by decide), Finset.mem_erase.mpr ⟨hne cc1_scratch6 cc1_scratch3 (by decide), Finset.mem_erase.mpr ⟨hne cc1_scratch6 cc1_scratch2 (by decide), Finset.mem_erase.mpr ⟨hne cc1_scratch6 cc1_scratch1 (by decide), Finset.mem_erase.mpr ⟨hne cc1_scratch6 cc1_scratch0 (by decide), hmem cc1_scratch6 rfl⟩⟩⟩⟩⟩⟩), SparseCore.bigSep_erase' (Finset.mem_erase.mpr ⟨hne cc1_scratch7 cc1_scratch6 (by decide), Finset.mem_erase.mpr ⟨hne cc1_scratch7 cc1_scratch5 (by decide), Finset.mem_erase.mpr ⟨hne cc1_scratch7 cc1_scratch4 (by decide), Finset.mem_erase.mpr ⟨hne cc1_scratch7 cc1_scratch3 (by decide), Finset.mem_erase.mpr ⟨hne cc1_scratch7 cc1_scratch2 (by decide), Finset.mem_erase.mpr ⟨hne cc1_scratch7 cc1_scratch1 (by decide), Finset.mem_erase.mpr ⟨hne cc1_scratch7 cc1_scratch0 (by decide), hmem cc1_scratch7 rfl⟩⟩⟩⟩⟩⟩⟩), SparseCore.bigSep_erase' (Finset.mem_erase.mpr ⟨hne cc1_scratch8 cc1_scratch7 (by decide), Finset.mem_erase.mpr ⟨hne cc1_scratch8 cc1_scratch6 (by decide), Finset.mem_erase.mpr ⟨hne cc1_scratch8 cc1_scratch5 (by decide), Finset.mem_erase.mpr ⟨hne cc1_scratch8 cc1_scratch4 (by decide), Finset.mem_erase.mpr ⟨hne cc1_scratch8 cc1_scratch3 (by decide), Finset.mem_erase.mpr ⟨hne cc1_scratch8 cc1_scratch2 (by decide), Finset.mem_erase.mpr ⟨hne cc1_scratch8 cc1_scratch1 (by decide), Finset.mem_erase.mpr ⟨hne cc1_scratch8 cc1_scratch0 (by decide), hmem cc1_scratch8 rfl⟩⟩⟩⟩⟩⟩⟩⟩)]

/-- The task's copy semaphores. -/
abbrev taskSem (k : Fin 8) : DmaSem sig := ⟨6 + k.val, by have := k.isLt; show 6 + k.val < 16; omega⟩
/-- The task's own semaphores, as cells of the whole program. -/
abbrev taskCell (d : Dev nD) (L : grid1.Coords) (k : Fin 8) : GSem nD τ sig := (taskThread d L, .dma (taskSem k))

omit [FloatOps F] in
theorem taskCell_mem (k : Fin 8) : taskCell d L k ∈ ownCells (taskThread d L) :=
  mem_ownCells.mpr ⟨rfl, (show ∀ k : Fin 8, (SemLoc.dma (taskSem k) : SemLoc sig).isScoped .scVector = true by decide) k⟩

omit [FloatOps F] in
/-- The task's semaphores at zero, apart from the rest of its own. -/
theorem ownSems0_task :
    (ownSems0 (taskThread d L) : sProp (MM F))
      = iprop((semVal ((taskThread d L), SemLoc.dma (taskSem 0)) 0 ∗ semVal ((taskThread d L), SemLoc.dma (taskSem 1)) 0 ∗ semVal ((taskThread d L), SemLoc.dma (taskSem 2)) 0 ∗ semVal ((taskThread d L), SemLoc.dma (taskSem 3)) 0 ∗ semVal ((taskThread d L), SemLoc.dma (taskSem 4)) 0 ∗ semVal ((taskThread d L), SemLoc.dma (taskSem 5)) 0 ∗ semVal ((taskThread d L), SemLoc.dma (taskSem 6)) 0 ∗ semVal ((taskThread d L), SemLoc.dma (taskSem 7)) 0)
          ∗ bigSep ((ownCells (taskThread d L)) \ Finset.univ.image (taskCell d L)) fun g => semVal g 0) := by
  unfold SparseCore.Cfg.ownSems0
  rw [SparseCore.bigSep_sdiff_split' (t := Finset.univ.image (taskCell d L))
      (Finset.image_subset_iff.mpr fun k _ => taskCell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide),  bigSep_singleton]

/-- A task's run as the call wants it: its block of the scores, everything else as it was. -/
theorem task_body (hF : (K (F := F)).Facts) (hI : I.InRange) (q : PosShare TreeShare) (O : CellTallies nD τ sig (HIx 1)) (W : Waits sig (HIx 1)) (hO : ∀ g, O g none = 0)
    (bd : Option 𝒱₀.V) :
    iprop(levAts (K (F := F)).L (K (F := F)).lev ∗ emp ∗ (readPts I d q ∗ ∃ f, outPts d L f)
        ∗ scopedBufs (taskThread d L) ∗ scopedSems0 (taskThread d L) ∗ owes (taskThread d L) O W)
      ⊢ wp frame (wpE (defs₀ (F := F)) 𝒱₀ (taskThread d L) bd) Set.univ
          (cc1_sc_scores L (Memref.whole main_v13_0_scv) (Memref.isWhole_whole _) (Memref.whole main_v13_1_scv) (Memref.isWhole_whole _) (Memref.whole main_v5_scv) (Memref.isWhole_whole _) (Memref.whole main_v7_scv) (Memref.isWhole_whole _) (Memref.whole main_v14_scv) (Memref.isWhole_whole _) (Memref.whole main_v15_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scoped0 cc1_scoped1 cc1_scoped2 cc1_scoped3)
          fun _ => iprop((readPts I d q ∗ outPts d L (I.score : Buf (Elt F) (scoreLoc d)))
            ∗ scopedBufs (taskThread d L) ∗ scopedSems0 (taskThread d L)
            ∗ ∃ W', ⌜∀ p ∈ W', p ∈ W ∨ p.2 = none ∨ p.2 = some (0 : Fin 1)⌝ ∗ owes (taskThread d L) O W') := by
  rw [(K (F := F)).scopedBufs_V hF d (coreOf L) (subOf L), SparseCore.Cfg.scopedSems0_V (Val := Elt F) d (coreOf L) (subOf L), ownSems0_task, ownBufs_task]
  unfold readPts outPts
  iintro ⟨#Hlv, -, ⟨⟨Ta, Tb, Ms, Md, Mw⟩, Mo⟩, ⟨B0, B1, B2, B3, B4, B5, B6, B7, B8, Hbufs⟩, ⟨⟨S0, S1, S2, S3, S4, S5, S6, S7⟩, Hsems⟩, HO⟩
  ihave Hmw := (show levAts (K (F := F)).L (K (F := F)).lev ⊢ Transfers.MayWaits (taskThread d L) (default : HIx 1) O from
    (K (F := F)).mayWaits_none (thr := (taskThread d L)) hO) $$ Hlv
  have hrun := wp_tile L (Memref.whole main_v13_0_scv) (Memref.isWhole_whole _) (Memref.whole main_v13_1_scv) (Memref.isWhole_whole _) (Memref.whole main_v5_scv) (Memref.isWhole_whole _) (Memref.whole main_v7_scv) (Memref.isWhole_whole _) (Memref.whole main_v14_scv) (Memref.isWhole_whole _) (Memref.whole main_v15_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scoped0 cc1_scoped1 cc1_scoped2 cc1_scoped3 d bd q I.ta I.tb I.src I.dst I.w O W
    (fun x => hI.1 _) (fun x => hI.2 _) (by decide) (by decide) (by decide) (by decide)
  unfold tileHeld tileRead matFree owing at hrun
  rw [set_block L] at hrun
  simp only [View.set_whole] at hrun
  iapply (wp_wand_r Idealize.ShloMosaic.frame (wpE (defs₀ (F := F)) 𝒱₀ (taskThread d L) bd) Set.univ)
  isplitl [Ta Tb Ms Md Mw Mo B0 B1 B2 B3 B4 B5 B6 B7 B8 S0 S1 S2 S3 S4 S5 S6 S7 HO]
  · iapply hrun
    isplitl [B0 B1 B2 B3 B4 B5 B6 B7 B8 S0 S1 S2 S3 S4 S5 S6 S7]
    · isplitl [B0]; iexact B0; isplitl [B1]; iexact B1; isplitl [B2]; iexact B2; isplitl [B3]; iexact B3; isplitl [B4]; iexact B4; isplitl [B5]; iexact B5; isplitl [B6]; iexact B6; isplitl [B7]; iexact B7; isplitl [B8]; iexact B8; isplitl [S0]; iexact S0; isplitl [S1]; iexact S1; isplitl [S2]; iexact S2; isplitl [S3]; iexact S3; isplitl [S4]; iexact S4; isplitl [S5]; iexact S5; isplitl [S6]; iexact S6
      iexact S7
    isplitl [Ta Tb Ms Md Mw]
    · isplitl [Ta]; iexact Ta; isplitl [Tb]; iexact Tb; isplitl [Ms]; iexact Ms; isplitl [Md]; iexact Md
      iexact Mw
    isplitl [Mo]; · iexact Mo
    isplitl [HO]
    · iexists W
      isplitr [HO]
      · ipureintro; exact fun p hp => Or.inl hp
      · iexact HO
    iexact Hmw
  iintro %_ ⟨⟨B0, B1, B2, B3, B4, B5, B6, B7, B8, S0, S1, S2, S3, S4, S5, S6, S7⟩, ⟨Ta, Tb, Ms, Md, Mw⟩, ⟨%fo, %ho, Mo⟩, ⟨%W', %hW', HO⟩⟩
  isplitl [Ta Tb Ms Md Mw Mo]
  · isplitl [Ta Tb Ms Md Mw]
    · isplitl [Ta]; iexact Ta; isplitl [Tb]; iexact Tb; isplitl [Ms]; iexact Ms; isplitl [Md]; iexact Md
      iexact Mw
    · have hc : ∀ x ∈ outSet L, (fo : S327680.Idx → F .f32) x = I.score x := by
        intro x hx
        rw [show outSet L = Finset.univ.map (outRect L).emb from (outRect L).map_emb_univ.symm] at hx
        obtain ⟨y, -, rfl⟩ := Finset.mem_map.mp hx
        have hy : y = (ix1 (y 0) : S10240.Idx) := by funext a; obtain rfl : a = 0 := Subsingleton.elim _ _; rfl
        rw [hy]
        exact ho (y 0)
      iapply (Entails.of_eq (pointsTo_congr hc))
      iexact Mo
  isplitl [B0 B1 B2 B3 B4 B5 B6 B7 B8 Hbufs]
  · isplitl [B0]; iexact B0; isplitl [B1]; iexact B1; isplitl [B2]; iexact B2; isplitl [B3]; iexact B3; isplitl [B4]; iexact B4; isplitl [B5]; iexact B5; isplitl [B6]; iexact B6; isplitl [B7]; iexact B7; isplitl [B8]; iexact B8
    iexact Hbufs
  isplitl [S0 S1 S2 S3 S4 S5 S6 S7 Hsems]
  · isplitl [S0 S1 S2 S3 S4 S5 S6 S7]
    · isplitl [S0]; iexact S0; isplitl [S1]; iexact S1; isplitl [S2]; iexact S2; isplitl [S3]; iexact S3; isplitl [S4]; iexact S4; isplitl [S5]; iexact S5; isplitl [S6]; iexact S6
      iexact S7
    iexact Hsems
  iexists W'; isplitr
  · ipureintro
    intro p hp
    rcases hW' p hp with h | h
    · exact .inl h
    · exact .inr (.inl h)
  · iexact HO

end Task

end Cert.Proof.Scores

end
-- ==== Proof.Call.lean ====
/-
  The SparseCore call: its arrays dealt to the tasks and brought back.
-/
module

public import proofs.«01_k».proof.Proof.Task

@[expose] public section

noncomputable section

namespace Cert.Proof.Scores

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The share of an array read that a SparseCore is given. -/
abbrev coreShare (c : Nat) : PosShare TreeShare := Transfers.shareTokN fullShare c
/-- The share of it that a task is given. -/
abbrev taskShare (c i : Nat) : PosShare TreeShare := Transfers.shareTokN (coreShare c) i

/-- The call takes the five arrays it reads, at a share for each SparseCore, and the score array; each task takes a share
    of the five and its own block of the scores, and brings the block back filled in. -/
def P (I : Inputs F) : (K (F := F)).Pay (nD := nD) (Val := Elt F) (Name := ℕ) (U := UU) where
  st := fun q d c => match q with
    | 0 => iprop(readPts I d (coreShare c.val) ∗ bigSep Finset.univ fun i : Fin (grid1.bound 1) => iprop(∃ f, outPts d (coordsV c i) f))
  dn := fun q d c => match q with
    | 0 => iprop(readPts I d (coreShare c.val) ∗ bigSep Finset.univ fun i : Fin (grid1.bound 1) => outPts d (coordsV c i) I.score)
  go := fun q d c i => match q with | 0 => iprop(readPts I d (taskShare c.val i.val) ∗ ∃ f, outPts d (coordsV c i) f)
  td := fun q d c i => match q with | 0 => iprop(readPts I d (taskShare c.val i.val) ∗ outPts d (coordsV c i) I.score)
  x := fun _ _ => iprop(emp)

/-- The arrays read may pass through a handshake. -/
instance readPts_storable (I : Inputs F) (d : Dev nD) (q : PosShare TreeShare) : BI.Storable (upEmb : UEmb _ (MM F)) (readPts I d q) := by
  unfold readPts; infer_instance

/-- A block of the scores may pass through a handshake. -/
instance outPts_storable (d : Dev nD) (L : grid1.Coords) (f : Buf (Elt F) (scoreLoc d)) : BI.Storable (upEmb : UEmb _ (MM F)) (outPts d L f) := by
  unfold outPts; infer_instance

/-- So may all the call passes. -/
instance P_storable (I : Inputs F) : (P I).IsStorable where
  st q d c := match q with
    | 0 => (inferInstance : BI.Storable (upEmb : UEmb _ (MM F))
        iprop(readPts I d (coreShare c.val) ∗ bigSep Finset.univ fun i : Fin (grid1.bound 1) => iprop(∃ f, outPts d (coordsV c i) f)))
  dn q d c := match q with
    | 0 => (inferInstance : BI.Storable (upEmb : UEmb _ (MM F))
        iprop(readPts I d (coreShare c.val) ∗ bigSep Finset.univ fun i : Fin (grid1.bound 1) => outPts d (coordsV c i) I.score))
  go q d c i := match q with
    | 0 => (inferInstance : BI.Storable (upEmb : UEmb _ (MM F)) iprop(readPts I d (taskShare c.val i.val) ∗ ∃ f, outPts d (coordsV c i) f))
  td q d c i := match q with
    | 0 => (inferInstance : BI.Storable (upEmb : UEmb _ (MM F)) iprop(readPts I d (taskShare c.val i.val) ∗ outPts d (coordsV c i) I.score))

section Split

variable (I : Inputs F) (d : Dev nD)

omit [FloatOps F] in
/-- A share of the five arrays is what is left of it and as many read shares as asked for. -/
theorem read_toks (q : PosShare TreeShare) (n : ℕ) :
    readPts I d q ⊣⊢ iprop(readPts I d (Transfers.shareDrop q n) ∗ bigSep Finset.univ fun i : Fin n => readPts I d (Transfers.shareTokN q i.val)) := by
  have h : ∀ {ℓ : Loc nD τ sig} (f : Buf (Elt F) ℓ), (ℓ ↦{q} f : sProp (MM F)) ⊣⊢
      iprop((ℓ ↦{Transfers.shareDrop q n} f) ∗ bigSep Finset.univ fun i : Fin n => ℓ ↦{Transfers.shareTokN q i.val} f) :=
    fun f => Transfers.pointsTo_toks q n
  unfold readPts
  rw [bigSep_sep', bigSep_sep', bigSep_sep', bigSep_sep']
  constructor
  · iintro ⟨A, B, C, D, E⟩
    ihave A := (h _).1 $$ A
    ihave B := (h _).1 $$ B
    ihave C := (h _).1 $$ C
    ihave D := (h _).1 $$ D
    ihave E := (h _).1 $$ E
    icases A with ⟨A, A'⟩
    icases B with ⟨B, B'⟩
    icases C with ⟨C, C'⟩
    icases D with ⟨D, D'⟩
    icases E with ⟨E, E'⟩
    isplitl [A B C D E]
    · isplitl [A]; · iexact A
      isplitl [B]; · iexact B
      isplitl [C]; · iexact C
      isplitl [D] <;> iassumption
    · isplitl [A']; · iexact A'
      isplitl [B']; · iexact B'
      isplitl [C']; · iexact C'
      isplitl [D'] <;> iassumption
  · iintro ⟨⟨A, B, C, D, E⟩, ⟨A', B', C', D', E'⟩⟩
    isplitl [A A']
    · iapply (h _).2; isplitl [A] <;> iassumption
    isplitl [B B']
    · iapply (h _).2; isplitl [B] <;> iassumption
    isplitl [C C']
    · iapply (h _).2; isplitl [C] <;> iassumption
    isplitl [D D']
    · iapply (h _).2; isplitl [D] <;> iassumption
    iapply (h _).2; isplitl [E] <;> iassumption

/-- One SparseCore's part is dealt to its tasks, and their results are its result. -/
theorem vecSplit : (K (F := F)).VecSplit' (P I) 0 := by
  intro d c
  show iprop(readPts I d (coreShare c.val) ∗ bigSep Finset.univ fun i : Fin (grid1.bound 1) => iprop(∃ f, outPts d (coordsV c i) f))
    ⊢ |={Set.univ}=> iprop(
      (bigSep Finset.univ fun i : Fin (grid1.bound 1) => iprop(readPts I d (taskShare c.val i.val) ∗ ∃ f, outPts d (coordsV c i) f))
      ∗ ((bigSep Finset.univ fun i : Fin (grid1.bound 1) => iprop(readPts I d (taskShare c.val i.val) ∗ outPts d (coordsV c i) I.score))
          -∗ iprop(readPts I d (coreShare c.val) ∗ bigSep Finset.univ fun i : Fin (grid1.bound 1) => outPts d (coordsV c i) I.score)))
  rw [bigSep_sep', bigSep_sep']
  iintro ⟨HR, HO⟩
  ihave HR := (read_toks I d (coreShare c.val) (grid1.bound 1)).1 $$ HR
  icases HR with ⟨HD, HT⟩
  imodintro
  isplitl [HT HO]
  · isplitl [HT]; · iexact HT
    iexact HO
  iintro ⟨HT, HO⟩
  isplitl [HD HT]
  · iapply (read_toks I d (coreShare c.val) (grid1.bound 1)).2
    isplitl [HD]; · iexact HD
    iexact HT
  · iexact HO

/-- Two SparseCores, sixteen tasks on each. -/
theorem coord_bounds : grid1.bound 0 = 2 ∧ grid1.bound 1 = 16 := ⟨rfl, rfl⟩

/-- A task's block is 10240 entries from the task's own start on. -/
theorem mem_outSet (L : grid1.Coords) (x : S327680.Idx) :
    x ∈ outSet L ↔ 20480 * (L 1).val + 10240 * (L 0).val ≤ (x 0).val ∧ (x 0).val < 20480 * (L 1).val + 10240 * (L 0).val + 10240 := by
  have h0 : k1_off1 L 0 = 20480 * (L 1).val + 10240 * (L 0).val := congrFun (k1_off1_eq L) 0
  rw [Rect.mem_set_unit]
  constructor
  · intro h; have := h 0; rw [h0] at this; exact this
  · intro h a; obtain rfl : a = 0 := Subsingleton.elim _ _; rw [h0]; exact h

/-- The blocks of two tasks do not meet. -/
theorem out_disjoint (p p' : Fin (grid1.bound 0) × Fin (grid1.bound 1)) (h : p ≠ p') :
    Disjoint (outSet (coordsV p.1 p.2)) (outSet (coordsV p'.1 p'.2)) := by
  rw [Finset.disjoint_left]
  intro x hx hx'
  rw [mem_outSet] at hx hx'
  have e : ∀ p : Fin (grid1.bound 0) × Fin (grid1.bound 1), (coordsV p.1 p.2 0).val = p.1.val ∧ (coordsV p.1 p.2 1).val = p.2.val := fun _ => ⟨rfl, rfl⟩
  rw [(e p).1, (e p).2] at hx
  rw [(e p').1, (e p').2] at hx'
  have b : p.1.val < 2 := p.1.isLt
  have b' : p'.1.val < 2 := p'.1.isLt
  exact h (Prod.ext (Fin.ext (by omega)) (Fin.ext (by omega)))

/-- The blocks of all tasks are the whole score array. -/
theorem out_cover : (Finset.univ : Finset (Fin (grid1.bound 0) × Fin (grid1.bound 1))).biUnion (fun p => outSet (coordsV p.1 p.2)) = Finset.univ := by
  ext x
  simp only [Finset.mem_biUnion, Finset.mem_univ, true_and, iff_true]
  have hx : (x 0).val < 327680 := (x 0).isLt
  refine ⟨(⟨(x 0).val / 10240 % 2, ?_⟩, ⟨(x 0).val / 20480, ?_⟩), ?_⟩
  · show _ < 2; omega
  · show _ < 16; omega
  · rw [mem_outSet]
    show 20480 * ((x 0).val / 20480) + 10240 * ((x 0).val / 10240 % 2) ≤ _ ∧ _ < 20480 * ((x 0).val / 20480) + 10240 * ((x 0).val / 10240 % 2) + 10240
    omega

/-- The score array is the tasks' blocks. -/
theorem out_blocks (f : Buf (Elt F) (scoreLoc d)) :
    (scoreLoc d ↦{fullShare} f : sProp (MM F))
      = bigSep Finset.univ fun c : Fin (grid1.bound 0) => bigSep Finset.univ fun i : Fin (grid1.bound 1) => outPts d (coordsV c i) f := by
  unfold outPts
  rw [← bigSep_univ_prod (fun p : Fin (grid1.bound 0) × Fin (grid1.bound 1) => (scoreLoc d ↦[outSet (coordsV p.1 p.2)]{fullShare} f : sProp (MM F))),
    ← pointsTo_biUnion Finset.univ (ℓ := scoreLoc d) (fun p : Fin (grid1.bound 0) × Fin (grid1.bound 1) => outSet (coordsV p.1 p.2))
      (fun p _ p' _ h => out_disjoint p p' h), out_cover]

omit [FloatOps F] in
/-- A block at known contents is a block at some contents. -/
theorem out_any (L : grid1.Coords) (f : Buf (Elt F) (scoreLoc d)) : outPts d L f ⊢ iprop(∃ f, outPts d L f) := by
  iintro H
  iexists f
  iexact H

/-- The arrays whole are what the call takes, and a remainder of the shares. -/
theorem call_take (f : Buf (Elt F) (scoreLoc d)) :
    iprop(readPts I d fullShare ∗ (scoreLoc d ↦{fullShare} f))
      ⊢ iprop(readPts I d (Transfers.shareDrop fullShare (grid1.bound 0)) ∗ bigSep Finset.univ fun c : Fin ((K (F := F)).nCore 0) => (P I).st 0 d c) := by
  show _ ⊢ iprop(_ ∗ bigSep Finset.univ fun c : Fin (grid1.bound 0) =>
    iprop(readPts I d (coreShare c.val) ∗ bigSep Finset.univ fun i : Fin (grid1.bound 1) => iprop(∃ f, outPts d (coordsV c i) f)))
  rw [bigSep_sep', out_blocks]
  iintro ⟨HR, HO⟩
  ihave HR := (read_toks I d fullShare (grid1.bound 0)).1 $$ HR
  icases HR with ⟨HD, HT⟩
  isplitl [HD]; · iexact HD
  isplitl [HT]; · iexact HT
  have h : (bigSep Finset.univ fun c : Fin (grid1.bound 0) => bigSep Finset.univ fun i : Fin (grid1.bound 1) => outPts d (coordsV c i) f)
      ⊢ (bigSep Finset.univ fun c : Fin (grid1.bound 0) => bigSep Finset.univ fun i : Fin (grid1.bound 1) => iprop(∃ f, outPts (F := F) d (coordsV c i) f)) :=
    bigSep_mono fun c _ => bigSep_mono fun i _ => out_any d (coordsV c i) f
  iapply h
  iexact HO

/-- What the call brings back, with the remainder, is the arrays whole, the scores filled in. -/
theorem call_give :
    iprop(readPts I d (Transfers.shareDrop fullShare (grid1.bound 0)) ∗ bigSep Finset.univ fun c : Fin ((K (F := F)).nCore 0) => (P I).dn 0 d c)
      ⊢ iprop(readPts I d fullShare ∗ (scoreLoc d ↦{fullShare} (I.score : Buf (Elt F) (scoreLoc d)))) := by
  show iprop(_ ∗ bigSep Finset.univ fun c : Fin (grid1.bound 0) =>
    iprop(readPts I d (coreShare c.val) ∗ bigSep Finset.univ fun i : Fin (grid1.bound 1) => outPts d (coordsV c i) I.score)) ⊢ _
  rw [bigSep_sep', out_blocks]
  iintro ⟨HD, HT, HO⟩
  isplitl [HD HT]
  · iapply (read_toks I d fullShare (grid1.bound 0)).2
    isplitl [HD]; · iexact HD
    iexact HT
  · iexact HO

end Split

/-- A task runs the scoring kernel at its place in the mesh. -/
theorem defs₀_vector (c : Fin τ.nSC) (s : Fin τ.nSub) :
    defs₀ (F := F) (.scVector c s) 1 ()
      = SparseCore.onTile hcore1 hsub1 (fun c s => cc1_sc_scores (coordsV c s) (Memref.whole main_v13_0_scv) (Memref.isWhole_whole _) (Memref.whole main_v13_1_scv) (Memref.isWhole_whole _) (Memref.whole main_v5_scv) (Memref.isWhole_whole _) (Memref.whole main_v7_scv) (Memref.isWhole_whole _) (Memref.whole main_v14_scv) (Memref.isWhole_whole _) (Memref.whole main_v15_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scoped0 cc1_scoped1 cc1_scoped2 cc1_scoped3) ⟨⟩ c s := rfl

/-- Every task of the call does what it is to do. -/
theorem tileObl (I : Inputs F) (hF : (K (F := F)).Facts) (hI : I.InRange) : (K (F := F)).TileObl (D (F := F)) 𝒱 (P I) v₀ 0 := by
  intro d c i O W hO _ _
  simp only [show (P I).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_body I d (coordsV ⟨_, hci.1⟩ ⟨_, hci.2⟩) hF hI _ O W hO none

end Cert.Proof.Scores

end
-- ==== Proof.Region.lean ====
/-
  The two TensorCore kernels as the program's regions: what each leaves in its result arrays, as a function of what
  its operand arrays hold, and how a region is entered and left while the core still owes the start of the
  SparseCore call.
-/
module

public import proofs.«01_k».proof.Proof.Setup
public import proofs.«01_k».proof.Proof.Gen.KernelIdeal.Points
public import Idealize.ShloMosaic.Lib.Pipeline.RegionArraysS
public import Idealize.ShloMosaic.Lib.Pipeline.ValueKit
public import Idealize.ShloMosaic.Lib.WritesUnit

@[expose] public section

noncomputable section

namespace Cert.Proof.Scores

open Cert.KernelIdeal Cert.KernelIdeal.Gen
open Idealize.ShloMosaic
open Idealize.ShloMosaic.TcCoe Idealize.ShloMosaic.Tactic
open Idealize.ShloMosaic.SparseCore.Cfg (HIx Pay Blocks)
open Idealize.ShloMosaic.Pipeline (Dat Cfg Window BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Contents of every buffer of a device. -/
abbrev Vals (F : FTy → Type) : Type := Valuation τ sig (Elt F)

/-- The one choice of prefetched tables there is: none. -/
abbrev adm : (p : Fin 2) → (pcfgs (F := F) p).Adm := fun p => (cfgs p).toPCfg_adm

/-- What may be recorded of the TensorCore's waits before its call `n`. -/
def recs (c : Dev nD) (n : ℕ) : Set (SemLoc sig × HIx 1) := {x | (K (F := F)).lev (SparseCore.T c, x.1) x.2 ≤ 8 * (inferInstance : Blocks 1 1).fst n}

/-- What the TensorCore owes before its call `n`, with its recorded waits bounded. -/
abbrev debt (c : Dev nD) (n : ℕ) : sProp (MM F) :=
  iprop(∃ W, ⌜(K (F := F)).WBelow (SparseCore.T c) W (8 * (inferInstance : Blocks 1 1).fst n)⌝ ∗ owes (SparseCore.T c) ((K (F := F)).Otc c n) W)

variable (Vt Vs : Vals F)

/-- The arrays of the tables kernel, as the region finds them. -/
abbrev emb0 : S10000x128.Idx → F .f32 := Vt (Proc.devRef .tc main_arg1)
/-- The left half of the first weights, as that region reads it. -/
abbrev wa0 : S128x128.Idx → F .f32 := Vt (Proc.devRef .tc main_v9)
/-- The right half of the first weights, as that region reads it. -/
abbrev wb0 : S128x128.Idx → F .f32 := Vt (Proc.devRef .tc main_v11)
/-- The first bias, as that region reads it. -/
abbrev bias0 : S1x128.Idx → F .f32 := Vt (Proc.devRef .tc main_v12)
/-- The array of the softmax kernel, as the region finds it. -/
abbrev scores2 : S2500x128.Idx → F .f32 := Vs (Proc.devRef .tc main_v17)

/-- The tables kernel's data: its operands as found, its two results at the products. -/
def dat0 (c : Dev nD) : Dat τ (Elt F) (HIx 1) ℕ UU ℕ cfg0 c where
  A w := Vt (Proc.devRef .tc (Pipeline.arrRef spec0 w))
  after w _ := match w with
    | ⟨0, _⟩ => emb0 Vt
    | ⟨1, _⟩ => wa0 Vt
    | ⟨2, _⟩ => wb0 Vt
    | ⟨3, _⟩ => bias0 Vt
    | ⟨4, _⟩ => k0_pay1 (emb0 Vt) (wa0 Vt) (bias0 Vt)
    | ⟨5, _⟩ => k0_pay2 (emb0 Vt) (wb0 Vt)
  Φ _ := Pipeline.scopedRest spec0 c
  q _ := fullShare
  owed _ := (K (F := F)).Otc c 0
  recorded _ := recs (F := F) c 0

/-- The softmax kernel's data: its operand as found, its result at the softmax. -/
def dat2 (c : Dev nD) : Dat τ (Elt F) (HIx 1) ℕ UU ℕ cfg2 c where
  A w := Vs (Proc.devRef .tc (Pipeline.arrRef spec2 w))
  after w _ := match w with
    | ⟨0, _⟩ => scores2 Vs
    | ⟨1, _⟩ => k2_pay1 (scores2 Vs)
  Φ _ := Pipeline.scopedRest spec2 c
  q _ := fullShare
  owed _ := (K (F := F)).Otc c 1
  recorded _ := recs (F := F) c 1

/-- The data of both regions. -/
def pdats : (p : Fin 2) → (c : Dev nD) → Dat τ (Elt F) (HIx 1) ℕ UU ℕ (Pipeline.pin (pcfgs (F := F)) adm p) c
  | ⟨0, _⟩ => fun c => dat0 Vt c
  | ⟨1, _⟩ => fun c => dat2 Vs c

/-- What the tables kernel's operand windows hold when its body runs. -/
theorem before0_0 (c : Dev nD) (d) : (dat0 Vt c).before 0 t0_0 d = emb0 Vt := by
  unfold Dat.before; rw [if_pos (fetch0_0 _)]; funext j
  exact congrArg (Vt (Proc.devRef .tc main_arg1)) (funext fun a => Fin.ext (Window.rect_emb_val_of_index_zero (cfg0.win 0) t0_0 a rfl j))
/-- The second window holds the left half of the weights. -/
theorem before0_1 (c : Dev nD) (d) : (dat0 Vt c).before 1 t0_0 d = wa0 Vt := by
  unfold Dat.before; rw [if_pos (fetch0_1 _)]; funext j
  exact congrArg (Vt (Proc.devRef .tc main_v9)) (funext fun a => Fin.ext (Window.rect_emb_val_of_index_zero (cfg0.win 1) t0_0 a rfl j))
/-- The third window holds the right half of the weights. -/
theorem before0_2 (c : Dev nD) (d) : (dat0 Vt c).before 2 t0_0 d = wb0 Vt := by
  unfold Dat.before; rw [if_pos (fetch0_2 _)]; funext j
  exact congrArg (Vt (Proc.devRef .tc main_v11)) (funext fun a => Fin.ext (Window.rect_emb_val_of_index_zero (cfg0.win 2) t0_0 a rfl j))
/-- The fourth window holds the bias. -/
theorem before0_3 (c : Dev nD) (d) : (dat0 Vt c).before 3 t0_0 d = bias0 Vt := by
  unfold Dat.before; rw [if_pos (fetch0_3 _)]; funext j
  exact congrArg (Vt (Proc.devRef .tc main_v12)) (funext fun a => Fin.ext (Window.rect_emb_val_of_index_zero (cfg0.win 3) t0_0 a rfl j))
/-- What the softmax kernel's operand window holds when its body runs. -/
theorem before2_0 (c : Dev nD) (d) : (dat2 Vs c).before 0 t2_0 d = scores2 Vs := by
  unfold Dat.before; rw [if_pos (fetch2_0 _)]; funext j
  exact congrArg (Vs (Proc.devRef .tc main_v17)) (funext fun a => Fin.ext (Window.rect_emb_val_of_index_zero (cfg2.win 0) t2_0 a rfl j))

/-- A load of a whole buffer reads it all. -/
theorem load_all {s : Shape} {sp : Space} {e : EltTy} (v : View sig .tc sp s e) {off : Fin s.rank → ℕ} (h : ∀ a, off a = 0) (inb : ∀ a, off a + s.size a ≤ s.size a)
    (f : v.ty.Contents (Elt F)) : v.readAt (Elt F) (Rect.unit off s.size inb).toLoadRect f = v.read (Elt F) f :=
  View.ld_unit_zero (funext h) inb (v.read (Elt F) f)

/-- A store over a whole buffer is then all it reads. -/
theorem store_all {s : Shape} {sp : Space} {e : EltTy} (v : View sig .tc sp s e) {off : Fin s.rank → ℕ} (h : ∀ a, off a = 0) (inb : ∀ a, off a + s.size a ≤ s.size a)
    (f : v.ty.Contents (Elt F)) (x : s.Idx → Elt F e) : v.read (Elt F) (v.writes (Elt F) f [⟨Rect.unit off s.size inb, x⟩]) = x := by
  funext y
  exact View.read_writes_cons_unit_of_mem v f inb x [] y y (funext h) fun a => (Nat.zero_add _).symm

/-- The softmax kernel's body, from its two buffers: the result's holds the softmax of the operand's. -/
theorem softmax_run (c : Dev nD) (M0 : Memref sig .tc .vmem S2500x128 .f32) (h0 : M0.IsWhole) (M1 : Memref sig .tc .vmem S2500x128 .f32) (h1 : M1.IsWhole)
    (f0 : Buf (Elt F) (M0.view.loc (c : Thread nD τ))) (f1 : Buf (Elt F) (M1.view.loc (c : Thread nD τ))) (Q : PUnit → sProp (MM F)) :
    iprop((M0.view.loc (c : Thread nD τ) ↦{fullShare} f0) ∗ (M1.view.loc (c : Thread nD τ) ↦{fullShare} f1)
        ∗ (iprop((M0.view.loc (c : Thread nD τ) ↦{fullShare} f0)
            ∗ ∃ g, ⌜M1.view.read (Elt F) g = k2_pay1 (M0.view.read (Elt F) f0)⌝ ∗ M1.view.loc (c : Thread nD τ) ↦{fullShare} g) -∗ Q ⟨⟩))
      ⊢ wp frame (wpE (defs₀ (F := F)) 𝒱₀ (c : Thread nD τ) none) Set.univ (cc2__softmax_body M0 h0 M1 h1) Q := by
  rw [cc2__softmax_body_eq_skeleton]
  unfold cc2__softmax_body_skel
  iintro ⟨H0, H1, Hk⟩
  sl_exec!
  sl_step
  iapply Hk
  isplitl [H0]; · iexact H0
  iexists _
  isplitr; swap; · iexact H1
  ipureintro
  unfold softmax_run.sl.H1_1
  rw [store_all _ (by decide), load_all _ (by decide)]

/-- The softmax kernel's body does what its data say. -/
theorem body2 (c : Dev nD) : BodyObligation (dat2 Vs c) (defs₀ (F := F)) 𝒱₀ none Set.univ := fun t => by
  obtain rfl := fin_N2 t
  rw [bigSep_W2, bigSep_W2]
  simp only [owns_whole_eq]
  rw [show (dat2 Vs c).Φ t2_0.castSucc = (dat2 Vs c).Φ t2_0.succ from rfl,
    show (dat2 Vs c).owesAt none t2_0.succ = (dat2 Vs c).owesAt none t2_0.castSucc from rfl]
  iintro ⟨HΦ, Howes, ⟨%d0, %f0, %hf0, H0⟩, ⟨%d1, %f1, -, H1⟩⟩
  rw [before2_0] at hf0
  subst hf0
  iapply (softmax_run c (stage2_0 0) (hstage2_0 0) (stage2_1 0) (hstage2_1 0) (scores2 Vs) f1)
  isplitl [H0]; · iexact H0
  isplitl [H1]; · iexact H1
  iintro ⟨H0, ⟨%g, %hg, H1⟩⟩
  isplitl [HΦ]; · iexact HΦ
  isplitl [Howes]; · iexact Howes
  isplitl [H0]; · iexists _; isplitr; swap; (· iexact H0); ipureintro; rfl
  iexists _; isplitr; swap; (· iexact H1); ipureintro; exact hg

/-- The tables kernel's body, from its six buffers: each result's holds its product. -/
theorem tables_run (c : Dev nD) (M0 : Memref sig .tc .vmem S10000x128 .f32) (h0 : M0.IsWhole) (M1 : Memref sig .tc .vmem S128x128 .f32) (h1 : M1.IsWhole)
    (M2 : Memref sig .tc .vmem S128x128 .f32) (h2 : M2.IsWhole) (M3 : Memref sig .tc .vmem S1x128 .f32) (h3 : M3.IsWhole)
    (M4 : Memref sig .tc .vmem S10000x128 .f32) (h4 : M4.IsWhole) (M5 : Memref sig .tc .vmem S10000x128 .f32) (h5 : M5.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (Q : PUnit → sProp (MM F)) :
    iprop((M0.view.loc (c : Thread nD τ) ↦{fullShare} f0) ∗ (M1.view.loc (c : Thread nD τ) ↦{fullShare} f1)
        ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5)
        ∗ (iprop((M0.view.loc (c : Thread nD τ) ↦{fullShare} f0) ∗ (M1.view.loc (c : Thread nD τ) ↦{fullShare} f1)
            ∗ (M2.view.loc (c : Thread nD τ) ↦{fullShare} f2) ∗ (M3.view.loc (c : Thread nD τ) ↦{fullShare} f3)
            ∗ (∃ g, ⌜M4.view.read (Elt F) g = k0_pay1 (M0.view.read (Elt F) f0) (M1.view.read (Elt F) f1) (M3.view.read (Elt F) f3)⌝ ∗ M4.view.loc (c : Thread nD τ) ↦{fullShare} g)
            ∗ (∃ g, ⌜M5.view.read (Elt F) g = k0_pay2 (M0.view.read (Elt F) f0) (M2.view.read (Elt F) f2)⌝ ∗ M5.view.loc (c : Thread nD τ) ↦{fullShare} g)) -∗ Q ⟨⟩))
      ⊢ wp frame (wpE (defs₀ (F := F)) 𝒱₀ (c : Thread nD τ) none) Set.univ (cc0__tables_body M0 h0 M1 h1 M2 h2 M3 h3 M4 h4 M5 h5) Q := by
  rw [cc0__tables_body_eq_skeleton]
  unfold cc0__tables_body_skel
  iintro ⟨H0, H1, H2, H3, H4, H5, Hk⟩
  sl_exec!
  sl_step
  iapply Hk
  isplitl [H0]; · iexact H0
  isplitl [H1]; · iexact H1
  isplitl [H2]; · iexact H2
  isplitl [H3]; · iexact H3
  isplitl [H4]
  · iexists _
    isplitr; swap; · iexact H4
    ipureintro
    unfold tables_run.sl.H4_1
    rw [store_all _ (by decide), load_all _ (by decide), load_all _ (by decide), load_all _ (by decide)]
  iexists _
  isplitr; swap; · iexact H5
  ipureintro
  unfold tables_run.sl.H5_1
  rw [store_all _ (by decide), load_all _ (by decide), load_all _ (by decide)]

/-- The tables kernel's body does what its data say. -/
theorem body0 (c : Dev nD) : BodyObligation (dat0 Vt c) (defs₀ (F := F)) 𝒱₀ none Set.univ := fun t => by
  obtain rfl := fin_N0 t
  rw [bigSep_W0, bigSep_W0]
  simp only [owns_whole_eq]
  rw [show (dat0 Vt c).Φ t0_0.castSucc = (dat0 Vt c).Φ t0_0.succ from rfl,
    show (dat0 Vt c).owesAt none t0_0.succ = (dat0 Vt c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  rw [before0_0] at hf0
  rw [before0_1] at hf1
  rw [before0_2] at hf2
  rw [before0_3] at hf3
  subst hf0 hf1 hf2 hf3
  iapply (tables_run c (stage0_0 0) (hstage0_0 0) (stage0_1 0) (hstage0_1 0) (stage0_2 0) (hstage0_2 0) (stage0_3 0) (hstage0_3 0)
    (stage0_4 0) (hstage0_4 0) (stage0_5 0) (hstage0_5 0) (emb0 Vt) (wa0 Vt) (wb0 Vt) (bias0 Vt) f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%g4, %hg4, H4⟩, ⟨%g5, %hg5, H5⟩⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact hg4
  iexists _; isplitr; swap; (· iexact H5); ipureintro; exact hg5

end Cert.Proof.Scores

end
-- ==== Proof.Enter.lean ====
/-
  Entering and leaving a TensorCore region of the program, between its operations and its SparseCore call.
-/
module

public import proofs.«01_k».proof.Proof.Region

@[expose] public section

noncomputable section

namespace Cert.Proof.Scores

open Cert.KernelIdeal Cert.KernelIdeal.Gen
open Idealize.ShloMosaic
open Idealize.ShloMosaic.TcCoe
open Idealize.ShloMosaic.SparseCore.Cfg (HIx Pay Blocks)
open Idealize.ShloMosaic.Pipeline (Dat Cfg Window BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The TensorCore's debts are all to SparseCore calls. -/
theorem Otc_none (c : Dev nD) (n : ℕ) (g : GSem nD τ sig) : (K (F := F)).Otc c n g (none : HIx 1) = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun k _ => ?_
    rw [tallyAt_apply, if_neg (fun h => nomatch h.2)]
  · rfl

/-- The unscoped buffers of a device at contents `W`. -/
abbrev bufsAt (c : Dev nD) (W : Vals F) : sProp (MM F) := StableHlo.held (c : Thread nD τ) (Pipeline.ucRefs τ sig) W

/-- Some of the buffers apart from the others. -/
theorem bufsAt_split (c : Dev nD) (W : Vals F) {R : Finset (DevRef τ sig)} (hR : R ⊆ Pipeline.ucRefs τ sig) :
    bufsAt c W = iprop(StableHlo.held (c : Thread nD τ) R W ∗ StableHlo.held (c : Thread nD τ) (Pipeline.ucRefs τ sig \ R) W) :=
  StableHlo.held_sub_split (c : Thread nD τ) hR W

variable (Vt Vs : Vals F)

/-- A region: the buffers at `W` going in, its results at what its data say coming out, the same debt throughout. -/
def regionSeg (p : Fin 2) (n : ℕ) (kit : Pipeline.PLaunchFacts (nD := nD) (τ := τ) (pcfgs (F := F)) p)
    (hbody : ∀ c, BodyObligationLoose (pdats Vt Vs p c) (defs₀ (F := F)) 𝒱₀ none Set.univ)
    (howed : ∀ c t, (pdats Vt Vs p c).owed t = (K (F := F)).Otc c n) (hrec : ∀ c t, (pdats Vt Vs p c).recorded t = recs (F := F) c n)
    (hshare : ∀ c w, (pdats Vt Vs p c).share w = fullShare)
    (hΦ : ∀ c t, (pdats Vt Vs p c).Φ t = Pipeline.scopedRest (Pipeline.pin (pcfgs (F := F)) adm p).spec c)
    (W : Vals F) (hW : ∀ c w, (pdats Vt Vs p c).arrAt w 0 = W (Proc.devRef .tc (Pipeline.arrRef (Pipeline.pin (pcfgs (F := F)) adm p).spec w))) :
    Pipeline.RegionSeg (pcfgs (F := F)) adm (pdats Vt Vs) none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro _ _ _ _ _ fun w s t => by
    rw [howed]
    exact (K (F := F)).mayWait_none _ (Otc_none c n)
  pre c := iprop(bufsAt c W ∗ debt c n)
  post c := iprop(bufsAt c (Pipeline.afterRegion (pdats Vt Vs p c) W) ∗ debt c n)
  X _ := BI.emp
  Y _ := BI.emp
  Z c := StableHlo.held (c : Thread nD τ) (Pipeline.ucRefs τ sig \ Pipeline.arrRefs (pcfgs (F := F) p).spec) W
  hentry c := by
    rw [Pipeline.ownSems0_none, Pipeline.prefHeld_of_none _ rfl,
      bufsAt_split c W (Pipeline.arrRefs_sub_ucRefs (pcfgs (F := F) p).spec kit.win.arr_unscoped),
      ← Pipeline.arrays_held (pcfgs (F := F)) adm (pdats Vt Vs) p kit c (hshare c) ((pdats Vt Vs p c).arrAt · 0) W (hW c)]
    iintro ⟨⟨⟨Ha, Hr⟩, ⟨%Wd, %hWd, HO⟩⟩, -, -⟩
    imodintro
    isplitl [Ha]; · iexact Ha
    isplitr; · iempintro
    isplitl [HO]
    · unfold Dat.owesAt Pipeline.owesWithin Dat.bound
      rw [howed c 0, hrec c]
      iexists Wd; isplitr; · ipureintro; exact fun x hx => Or.inl (hWd x hx)
      iexact HO
    isplitr; · iempintro
    iexact Hr
  hin c := by
    rw [hΦ]
    iintro ⟨-, -, Hr⟩; iexact Hr
  hout c := by
    rw [Pipeline.ownSems0_none, hΦ]
    iintro Hr
    isplitr; · iempintro
    isplitr; · iempintro
    iexact Hr
  hexit c := by
    rw [bufsAt_split c (Pipeline.afterRegion (pdats Vt Vs p c) W) (Pipeline.arrRefs_sub_ucRefs (pcfgs (F := F) p).spec kit.win.arr_unscoped),
      ← Pipeline.arrays_held (pcfgs (F := F)) adm (pdats Vt Vs) p kit c (hshare c) ((pdats Vt Vs p c).arrAt · (Pipeline.pin (pcfgs (F := F)) adm p).N) _
        (fun w => (Pipeline.afterRegion_arr (pdats Vt Vs p c) W kit.win.arr_inj w).symm),
      StableHlo.held_congr (c : Thread nD τ) (V := Pipeline.afterRegion (pdats Vt Vs p c) W) (V' := W) (Pipeline.afterRegion_off (pdats Vt Vs p c) W _)]
    unfold Dat.owesAt Pipeline.owesWithin Dat.bound
    rw [howed c (Fin.last _), hrec c]
    iintro ⟨Ha, ⟨%Wd, %hWd, HO⟩, -, Hr⟩
    imodintro
    isplitl [Ha Hr]
    · isplitl [Ha] <;> iassumption
    iexists Wd
    isplitr
    · ipureintro
      intro x hx
      rcases hWd hx with h | ⟨w, s, rfl⟩
      · exact h
      · exact Nat.zero_le _
    iexact HO

end Cert.Proof.Scores

end
-- ==== Proof.Main.lean ====
/-
  The program on the TensorCore: its operations, its two regions and its SparseCore call, with the values they leave.
-/
module

public import proofs.«01_k».proof.Proof.Call
public import proofs.«01_k».proof.Proof.Enter

@[expose] public section

noncomputable section

namespace Cert.Proof.Scores

open Cert.KernelIdeal Cert.KernelIdeal.Gen
open Idealize.ShloMosaic
open Idealize.ShloMosaic.TcCoe
open Idealize.ShloMosaic.SparseCore.Cfg (HIx Pay Blocks)
open Idealize.ShloMosaic.Pipeline (Dat Cfg Window BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held seq seqK)

variable {F : FTy → Type} [FloatOps F]

/-- The regions' pools as the launch lays them out. -/
abbrev pools := Pipeline.pin (pcfgs (F := F)) adm

variable (Vt Vs : Vals F)

/-- A region as the program calls it. -/
theorem wp_region (p : Fin 2) (R : Pipeline.RegionSeg (pcfgs (F := F)) adm (pdats Vt Vs) none (defs₀ (F := F)) 𝒱₀ (K (F := F)).L (K (F := F)).lev p)
    (d : Dev nD) (Q : PUnit → sProp (MM F)) :
    iprop((iprop(boundary (SparseCore.T d) ∗ R.post d) -∗ Q ⟨⟩) ∗ boundary (SparseCore.T d) ∗ R.pre d ∗ levAts (K (F := F)).L (K (F := F)).lev
        ∗ Pipeline.cellsGhost (pools (F := F)) EP p d ∗ Pipeline.toksInit (pools (F := F)) EP p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  refine BIBase.Entails.trans ?_ (Pipeline.RegionSeg.wp (pcfgs (F := F)) adm (pdats Vt Vs) none cellOf_inj EP (defs₀ (F := F)) 𝒱₀ (K (F := F)).L (K (F := F)).lev R d none
    (fun _ h => nomatch h) .ret Q)
  iintro ⟨HQ, H⟩
  isplitl [HQ]
  · iintro H
    rw [wp_ret]; imodintro
    iapply HQ $$ H
  iexact H

/-- The operations before the tables region. -/
def opsA : List (HloOp τ sig (Elt F)) :=
  [ StableHlo.unary main_arg0 main_v0 ((extractStridedSlice S320000x1 ![0, 0] · slices_S320000x2_S320000x1_0_0) : (⟨S320000x2, .i32⟩ : BufTy).Contents (Elt F) → (⟨S320000x1, .i32⟩ : BufTy).Contents (Elt F)),
    StableHlo.reshape main_v0 main_v1 (rfl : (.i32 : EltTy) = .i32) shapeCasts_S320000x1_S320000,
    StableHlo.unary main_arg0 main_v2 ((extractStridedSlice S320000x1 ![0, 1] · slices_S320000x2_S320000x1_0_1) : (⟨S320000x2, .i32⟩ : BufTy).Contents (Elt F) → (⟨S320000x1, .i32⟩ : BufTy).Contents (Elt F)),
    StableHlo.reshape main_v2 main_v3 (rfl : (.i32 : EltTy) = .i32) shapeCasts_S320000x1_S320000,
    StableHlo.nullary main_c (constantI S_ 32 0#32),
    StableHlo.unary main_c main_v4 (broadcastInDim S7680 ![] bcast_S_S7680 : (⟨S_, .i32⟩ : BufTy).Contents (Elt F) → (⟨S7680, .i32⟩ : BufTy).Contents (Elt F)),
    StableHlo.binary main_v1 main_v4 main_v5 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.nullary main_c_0 (constantI S_ 32 0#32),
    StableHlo.unary main_c_0 main_v6 (broadcastInDim S7680 ![] bcast_S_S7680 : (⟨S_, .i32⟩ : BufTy).Contents (Elt F) → (⟨S7680, .i32⟩ : BufTy).Contents (Elt F)),
    StableHlo.binary main_v3 main_v6 main_v7 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.unary main_arg2 main_v8 ((extractStridedSlice S128x128 ![0, 0] · slices_S128x256_S128x128_0_0) : (⟨S128x256, .f32⟩ : BufTy).Contents (Elt F) → (⟨S128x128, .f32⟩ : BufTy).Contents (Elt F)),
    StableHlo.unary main_v8 main_v9 ((transpose S128x128 [1, 0] · transposes_S128x128_S128x128_1_0) : (⟨S128x128, .f32⟩ : BufTy).Contents (Elt F) → (⟨S128x128, .f32⟩ : BufTy).Contents (Elt F)),
    StableHlo.unary main_arg2 main_v10 ((extractStridedSlice S128x128 ![0, 128] · slices_S128x256_S128x128_0_128) : (⟨S128x256, .f32⟩ : BufTy).Contents (Elt F) → (⟨S128x128, .f32⟩ : BufTy).Contents (Elt F)),
    StableHlo.unary main_v10 main_v11 ((transpose S128x128 [1, 0] · transposes_S128x128_S128x128_1_0) : (⟨S128x128, .f32⟩ : BufTy).Contents (Elt F) → (⟨S128x128, .f32⟩ : BufTy).Contents (Elt F)),
    StableHlo.reshape main_arg3 main_v12 (rfl : (.f32 : EltTy) = .f32) shapeCasts_S128_S1x128 ]

/-- The operation between the tables region and the scoring call. -/
def opsB : List (HloOp τ sig (Elt F)) := [StableHlo.reshape main_arg4 main_v14 (rfl : (.f32 : EltTy) = .f32) shapeCasts_S1x128_S128]

/-- The operations between the scoring call and the softmax region. -/
def opsC : List (HloOp τ sig (Elt F)) :=
  [ StableHlo.unary main_v15 main_v16 ((extractStridedSlice S320000 ![0] · slices_S327680_S320000_0) : (⟨S327680, .f32⟩ : BufTy).Contents (Elt F) → (⟨S320000, .f32⟩ : BufTy).Contents (Elt F)),
    StableHlo.reshape main_v16 main_v17 (rfl : (.f32 : EltTy) = .f32) shapeCasts_S320000_S2500x128 ]

/-- The last operation. -/
def opsD : List (HloOp τ sig (Elt F)) := [StableHlo.reshape main_v18 main_v19 (rfl : (.f32 : EltTy) = .f32) shapeCasts_S2500x128_S320000]

/-- The program as four lines of operations around its two regions and its call. -/
theorem main_eq (d : Dev nD) : main (F := F) d =
    seq opsA >>= fun _ => Prog.lift (.customCall (SparseCore.inner (Pipeline.entry 0)) ()) >>= fun _ =>
    seq opsB >>= fun _ => sc.run d 0 >>= fun _ =>
    seq opsC >>= fun _ => Prog.lift (.customCall (SparseCore.inner (Pipeline.entry 1)) ()) >>= fun _ =>
    seq opsD >>= fun _ => .ret ⟨⟩ := by
  simp only [StableHlo.seq_bind_seqK, opsA, opsB, opsC, opsD, seqK]
  rfl

/-- Every operation of the line works on buffers of the TensorCore. -/
theorem opsA_sub : (opsA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub ..,
    StableHlo.unary_bufs_sub .., StableHlo.unary_bufs_sub .., StableHlo.reshape_bufs_sub ..⟩
/-- Every operation of the line works on buffers of the TensorCore. -/
theorem opsB_sub : (opsB : List (HloOp τ sig (Elt F))).Forall fun op => op.bufs ⊆ StableHlo.tcRefs τ sig := StableHlo.reshape_bufs_sub ..
/-- Every operation of the line works on buffers of the TensorCore. -/
theorem opsC_sub : (opsC : List (HloOp τ sig (Elt F))).Forall fun op => op.bufs ⊆ StableHlo.tcRefs τ sig :=
  ⟨StableHlo.unary_bufs_sub .., StableHlo.reshape_bufs_sub ..⟩
/-- Every operation of the line works on buffers of the TensorCore. -/
theorem opsD_sub : (opsD : List (HloOp τ sig (Elt F))).Forall fun op => op.bufs ⊆ StableHlo.tcRefs τ sig := StableHlo.reshape_bufs_sub ..

/-- A line of operations on the device's unscoped buffers. -/
theorem wp_line (ops : List (HloOp τ sig (Elt F))) (hs : ops.Forall fun op => op.bufs ⊆ StableHlo.tcRefs τ sig)
    (hf : ops.Forall fun op => op.fresh = ∅) (d : Dev nD) (W : Vals F)
    (k : PUnit → Prog (TpuEff nD τ sig (Elt F) (SparseCore.Sig (ΛP (F := F)) 1) .tc) PUnit) (Q : PUnit → sProp (MM F)) :
    iprop((boundary (SparseCore.T d) ∗ bufsAt d W)
        ∗ (iprop(boundary (SparseCore.T d) ∗ bufsAt d (after ops W)) -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (seq ops >>= k) Q := by
  iintro ⟨H, Hk⟩
  iapply (StableHlo.wp_seq (defs := (K (F := F)).defs (D (F := F))) 𝒱 none Set.univ d (Pipeline.ucRefs τ sig) k ops
    (fun op ho => Pipeline.sub_ucRefs op (List.forall_iff_forall_mem.mp hs op ho)) (List.forall_iff_forall_mem.mp hf) W) $$ H
  iexact Hk

/-! ## The call's buffers among the device's -/

/-- The buffers the scoring call works on. -/
def callRefs : Finset (DevRef τ sig) :=
  ({main_v13_0, main_v13_1, main_v5, main_v7, main_v14, main_v15} : Finset (Ref sig .tc)).map ⟨Proc.devRef (sig := sig) (.tc : Proc τ), Proc.devRef_injective _⟩

/-- They are among the buffers the device keeps. -/
theorem callRefs_sub : callRefs ⊆ Pipeline.ucRefs τ sig := by
  intro b hb
  obtain ⟨r, hr, rfl⟩ := Finset.mem_map.mp hb
  refine Pipeline.devRef_mem_ucRefs ?_
  revert r; decide

/-- What the scoring call reads, from the buffers' contents. -/
def inputsOf (W : Vals F) : Inputs F where
  ta := W (Proc.devRef .tc main_v13_0)
  tb := W (Proc.devRef .tc main_v13_1)
  src := W (Proc.devRef .tc main_v5)
  dst := W (Proc.devRef .tc main_v7)
  w := W (Proc.devRef .tc main_v14)

/-- The buffers with the scores written. -/
def scored (W : Vals F) : Vals F := Function.update W (Proc.devRef .tc main_v15) ((inputsOf W).score : S327680.Idx → F .f32)

/-- The call's buffers are what the call reads and the scores' buffer. -/
theorem held_call (d : Dev nD) (W : Vals F) :
    (held (d : Thread nD τ) callRefs W : sProp (MM F))
      = iprop(((SparseCore.T d).loc main_v13_0 ↦{fullShare} W (Proc.devRef .tc main_v13_0)) ∗ ((SparseCore.T d).loc main_v13_1 ↦{fullShare} W (Proc.devRef .tc main_v13_1))
        ∗ ((SparseCore.T d).loc main_v5 ↦{fullShare} W (Proc.devRef .tc main_v5)) ∗ ((SparseCore.T d).loc main_v7 ↦{fullShare} W (Proc.devRef .tc main_v7))
        ∗ ((SparseCore.T d).loc main_v14 ↦{fullShare} W (Proc.devRef .tc main_v14)) ∗ (scoreLoc d ↦{fullShare} W (Proc.devRef .tc main_v15))) := by
  unfold held callRefs
  rw [bigSep_map, SparseCore.bigSep_insert' (by decide), SparseCore.bigSep_insert' (by decide), SparseCore.bigSep_insert' (by decide),
    SparseCore.bigSep_insert' (by decide), SparseCore.bigSep_insert' (by decide), bigSep_singleton]
  rfl

/-- The buffers before the call: what it reads, the scores' buffer, and the rest. -/
theorem call_in (d : Dev nD) (W : Vals F) : bufsAt d W
    ⊢ iprop(readPts (inputsOf W) d fullShare ∗ (scoreLoc d ↦{fullShare} (W (Proc.devRef .tc main_v15) : S327680.Idx → F .f32))
        ∗ held (d : Thread nD τ) (Pipeline.ucRefs τ sig \ callRefs) W) := by
  rw [bufsAt_split d W callRefs_sub, held_call]
  iintro ⟨⟨Ha, Hb, Hs, Hd, Hw, Ho⟩, Hr⟩
  isplitl [Ha Hb Hs Hd Hw]
  · unfold readPts
    isplitl [Ha]; · iexact Ha
    isplitl [Hb]; · iexact Hb
    isplitl [Hs]; · iexact Hs
    isplitl [Hd]; · iexact Hd
    iexact Hw
  isplitl [Ho]; · iexact Ho
  iexact Hr

/-- Away from the scores' buffer nothing changes. -/
theorem scored_ne (W : Vals F) {r : Ref sig .tc} (h : r ≠ main_v15) : scored W (Proc.devRef .tc r) = W (Proc.devRef .tc r) :=
  Function.update_of_ne (StableHlo.devRef_ne_of_ne h) _ _

/-- Away from the call's buffers nothing changes. -/
theorem scored_rest (W : Vals F) {b : DevRef τ sig} (hb : b ∈ Pipeline.ucRefs τ sig \ callRefs) : scored W b = W b :=
  Function.update_of_ne (fun e => (Finset.mem_sdiff.mp hb).2 (by rw [e]; exact Finset.mem_map_of_mem _ (by decide))) _ _

/-- The scores' buffer holds the scores. -/
theorem scored_self (W : Vals F) : scored W (Proc.devRef .tc main_v15) = ((inputsOf W).score : S327680.Idx → F .f32) :=
  Function.update_self _ _ _

/-- The buffers after the call. -/
theorem call_out (d : Dev nD) (W : Vals F) :
    iprop((readPts (inputsOf W) d fullShare ∗ (scoreLoc d ↦{fullShare} (inputsOf W).score)) ∗ held (d : Thread nD τ) (Pipeline.ucRefs τ sig \ callRefs) W)
      ⊢ bufsAt d (scored W) := by
  rw [bufsAt_split d (scored W) callRefs_sub, held_call, scored_self, scored_ne W (by decide), scored_ne W (by decide), scored_ne W (by decide),
    scored_ne W (by decide), scored_ne W (by decide),
    StableHlo.held_congr (d : Thread nD τ) (V := scored W) (V' := W) fun b hb => scored_rest W hb]
  unfold readPts
  iintro ⟨⟨⟨Ha, Hb, Hs, Hd, Hw⟩, Ho⟩, Hr⟩
  isplitr [Hr]
  · isplitl [Ha]; · iexact Ha
    isplitl [Hb]; · iexact Hb
    isplitl [Hs]; · iexact Hs
    isplitl [Hd]; · iexact Hd
    isplitl [Hw]; · iexact Hw
    iexact Ho
  iexact Hr

/-- The tables region holds its arrays whole. -/
theorem share0 (c : Dev nD) (w) : (dat0 Vt c).share w = fullShare := by unfold Dat.share; exact ite_self _
/-- The softmax region holds its arrays whole. -/
theorem share2 (c : Dev nD) (w) : (dat2 Vs c).share w = fullShare := by unfold Dat.share; exact ite_self _
/-- Beside its windows the tables region keeps the unused scratch. -/
theorem rest0 (c : Dev nD) (t) : (dat0 Vt c).Φ t = Pipeline.scopedRest spec0 c := rfl
/-- Beside its windows the softmax region keeps the unused scratch. -/
theorem rest2 (c : Dev nD) (t) : (dat2 Vs c).Φ t = Pipeline.scopedRest spec2 c := rfl

/-- The tables region, entered with the buffers at `Vt`. -/
def region0 : Pipeline.RegionSeg (pcfgs (F := F)) adm (pdats Vt Vs) none (defs₀ (F := F)) 𝒱₀ (K (F := F)).L (K (F := F)).lev 0 :=
  regionSeg Vt Vs 0 0 launch0.toP (fun c => (body0 Vt c).loose) (fun _ _ => rfl) (fun _ _ => rfl) (share0 Vt) (rest0 Vt) Vt (fun _ _ => rfl)
/-- The softmax region, entered with the buffers at `Vs`. -/
def region2 : Pipeline.RegionSeg (pcfgs (F := F)) adm (pdats Vt Vs) none (defs₀ (F := F)) 𝒱₀ (K (F := F)).L (K (F := F)).lev 1 :=
  regionSeg Vt Vs 1 1 launch2.toP (fun c => (body2 Vs c).loose) (fun _ _ => rfl) (fun _ _ => rfl) (share2 Vs) (rest2 Vs) Vs (fun _ _ => rfl)

/-- The tables region as the program calls it, with what it takes and leaves. -/
theorem wp_tables (d : Dev nD) (Q : PUnit → sProp (MM F)) :
    iprop((iprop(boundary (SparseCore.T d) ∗ bufsAt d (Pipeline.afterRegion (dat0 Vt d) Vt) ∗ debt d 0) -∗ Q ⟨⟩)
        ∗ boundary (SparseCore.T d) ∗ (bufsAt d Vt ∗ debt d 0) ∗ levAts (K (F := F)).L (K (F := F)).lev
        ∗ Pipeline.cellsGhost (pools (F := F)) EP 0 d ∗ Pipeline.toksInit (pools (F := F)) EP 0 d)
      ⊢ wp frame (wpE ((K (F := F)).defs (D (F := F))) 𝒱 (SparseCore.T d) none) Set.univ
          (Prog.lift (.customCall (SparseCore.inner (Pipeline.entry 0)) ())) Q :=
  wp_region Vt Vt 0 (region0 Vt Vt) d Q

/-- The softmax region as the program calls it, with what it takes and leaves. -/
theorem wp_softmax (d : Dev nD) (Q : PUnit → sProp (MM F)) :
    iprop((iprop(boundary (SparseCore.T d) ∗ bufsAt d (Pipeline.afterRegion (dat2 Vs d) Vs) ∗ debt d 1) -∗ Q ⟨⟩)
        ∗ boundary (SparseCore.T d) ∗ (bufsAt d Vs ∗ debt d 1) ∗ levAts (K (F := F)).L (K (F := F)).lev
        ∗ Pipeline.cellsGhost (pools (F := F)) EP 1 d ∗ Pipeline.toksInit (pools (F := F)) EP 1 d)
      ⊢ wp frame (wpE ((K (F := F)).defs (D (F := F))) 𝒱 (SparseCore.T d) none) Set.univ
          (Prog.lift (.customCall (SparseCore.inner (Pipeline.entry 1)) ())) Q :=
  wp_region Vs Vs 1 (region2 Vs Vs) d Q

/-! ## The buffers' contents along the program -/

variable (m : (ℓ : Loc nD τ sig) → Buf (Elt F) ℓ)

/-- When the tables region starts. -/
def atTables (d : Dev nD) : Vals F := after opsA (fun b => m (d, b))
/-- When it is done. -/
def afterTables (d : Dev nD) : Vals F := Pipeline.afterRegion (dat0 (atTables m d) d) (atTables m d)
/-- When the scoring call starts. -/
def atCall (d : Dev nD) : Vals F := after opsB (afterTables m d)
/-- When the softmax region starts. -/
def atSoftmax (d : Dev nD) : Vals F := after opsC (scored (atCall m d))
/-- When it is done. -/
def afterSoftmax (d : Dev nD) : Vals F := Pipeline.afterRegion (dat2 (atSoftmax m d) d) (atSoftmax m d)
/-- At the end. -/
def atEnd (d : Dev nD) : Vals F := after opsD (afterSoftmax m d)

/-! ## The program -/

/-- The one device. -/
abbrev d₀ : Dev nD := 0

/-- What the scoring call is given. -/
def callInputs : Inputs F := inputsOf (atCall m d₀)

/-- The ghost state of the two regions. -/
def regionGhost (d : Dev nD) : sProp (MM F) :=
  iprop((Pipeline.cellsGhost (pools (F := F)) EP 0 d ∗ Pipeline.toksInit (pools (F := F)) EP 0 d)
    ∗ (Pipeline.cellsGhost (pools (F := F)) EP 1 d ∗ Pipeline.toksInit (pools (F := F)) EP 1 d))

/-- The program on the TensorCore ends with its buffers at `atEnd`. -/
theorem hmain (ρ : Dev nD → PrngReg) (κ : GSem nD τ sig → ℕ) (d : Dev nD) :
    iprop((K (F := F)).ctx EH (P (callInputs m)) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ bufsAt d (atEnd m d) ∗ (K (F := F)).tcEnd d) := by
  obtain rfl : d = d₀ := Subsingleton.elim _ _
  unfold SparseCore.Cfg.tcRes SparseCore.Cfg.tcEnd regionGhost
  rw [show (fun b => m ((SparseCore.T d₀).loc b)) = (fun b : Ref sig .tc => (fun b : DevRef τ sig => m (d₀, b)) (Proc.devRef .tc b)) from rfl,
    Pipeline.unscopedBufs_held d₀ (fun b => m (d₀, b)), main_eq]
  iintro ⟨#Hctx, Hst, ⟨Hb, Hbufs, Hts, -⟩, ⟨⟨Hc0, Ht0⟩, Hc1, Ht1⟩⟩
  ihave #Hlev := (SparseCore.Cfg.ctx_levAts κ) $$ Hctx
  iapply (wp_line opsA opsA_sub ⟨rfl, rfl, rfl, rfl, rfl, rfl, rfl, rfl, rfl, rfl, rfl, rfl, rfl, rfl, rfl⟩ d₀ (fun b => m (d₀, b)) _ _)
  isplitl [Hb Hbufs]; · isplitl [Hb] <;> iassumption
  iintro ⟨Hb, Hbufs⟩
  rw [wp_bind]
  unfold SparseCore.Cfg.tcSt
  icases Hst with ⟨HO, Hst⟩
  iapply (wp_tables (atTables m d₀) d₀ _)
  isplitr [Hb Hbufs HO Hc0 Ht0]
  rotate_left
  · isplitl [Hb]; · iexact Hb
    isplitl [Hbufs HO]
    · isplitl [Hbufs]; · iexact Hbufs
      iexact HO
    isplitr; · iexact Hlev
    isplitl [Hc0] <;> iassumption
  iintro ⟨Hb, Hbufs, HO⟩
  iapply (wp_line opsB opsB_sub rfl d₀ (afterTables m d₀) _ _)
  isplitl [Hb Hbufs]; · isplitl [Hb]; · iexact Hb
                        iexact Hbufs
  iintro ⟨Hb, Hbufs⟩
  rw [wp_bind]
  ihave Hin := (call_in d₀ (atCall m d₀)) $$ [Hbufs]; · iexact Hbufs
  icases Hin with ⟨Hrd, Hsc, Hrest⟩
  ihave Hin := (call_take (callInputs m) d₀ _) $$ [Hrd Hsc]
  · isplitl [Hrd]; · iexact Hrd
    iexact Hsc
  icases Hin with ⟨Hkeep, Hgo⟩
  iapply ((K (F := F)).wp_run (D (F := F)) 𝒱 (EH := EH) (P := P (callInputs m)) κ d₀ 0)
  isplitr; · iexact Hctx
  isplitl [HO Hst]
  · unfold SparseCore.Cfg.tcSt
    isplitl [HO]; · iexact HO
    iexact Hst
  isplitl [Hgo]; · iexact Hgo
  iintro ⟨Hst, Hdn⟩
  ihave Hout := (call_give (callInputs m) d₀) $$ [Hkeep Hdn]
  · isplitl [Hkeep] <;> iassumption
  ihave Hbufs := (call_out d₀ (atCall m d₀)) $$ [Hout Hrest]
  · isplitl [Hout]; · iexact Hout
    iexact Hrest
  iapply (wp_line opsC opsC_sub ⟨rfl, rfl⟩ d₀ (scored (atCall m d₀)) _ _)
  isplitl [Hb Hbufs]; · isplitl [Hb] <;> iassumption
  iintro ⟨Hb, Hbufs⟩
  rw [wp_bind]
  unfold SparseCore.Cfg.tcSt
  icases Hst with ⟨HO, Hst⟩
  iapply (wp_softmax (atSoftmax m d₀) d₀ _)
  isplitr [Hb Hbufs HO Hc1 Ht1]
  rotate_left
  · isplitl [Hb]; · iexact Hb
    isplitl [Hbufs HO]
    · isplitl [Hbufs]; · iexact Hbufs
      iexact HO
    isplitr; · iexact Hlev
    isplitl [Hc1] <;> iassumption
  iintro ⟨Hb, Hbufs, HO⟩
  iapply (wp_line opsD opsD_sub rfl d₀ (afterSoftmax m d₀) _ _)
  isplitl [Hb Hbufs]; · isplitl [Hb]; · iexact Hb
                        iexact Hbufs
  iintro ⟨Hb, Hbufs⟩
  rw [wp_ret]; imodintro
  isplitl [HO Hst]
  · isplitl [HO]; · iexact HO
    iexact Hst
  isplitl [Hbufs]; · iexact Hbufs
  isplitl [Hb] <;> iassumption

end Cert.Proof.Scores

end
-- ==== Proof.Launched.lean ====
/-
  The program launched: from any memory whose edges name nodes, it ends with the buffers at the values computed.
-/
module

public import proofs.«01_k».proof.Proof.Main

@[expose] public section

noncomputable section

namespace Cert.Proof.Scores

open Cert.KernelIdeal Cert.KernelIdeal.Gen
open Idealize.ShloMosaic
open Idealize.ShloMosaic.TcCoe
open Idealize.ShloMosaic.SparseCore.Cfg (HIx Pay Blocks)
open Idealize.ShloMosaic.Pipeline (Dat Cfg Window BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held seq seqK)

variable {F : FTy → Type} [FloatOps F]

variable (m : (ℓ : Loc nD τ sig) → Buf (Elt F) ℓ)

/-- The ghost state at the launch: the call's handshakes and the regions' rounds. -/
def u₀ : UU :=
  (initOf (K (F := F)).hsCells (K (F := F)).hsToks,
    (initOf (Pipeline.cells (nD := nD) (pools (F := F)) cellOf_inj) (Pipeline.launchToks (nD := nD) (pools (F := F)) cellOf_inj), 1))

/-- Nothing, many times over, is nothing. -/
theorem bigSep_nothing {I : Type} (s : Finset I) : (bigSep s fun _ => iprop(emp)) = (iprop(emp) : sProp (MM F)) := bigSep_emp_const s

/-- One for the only device and each of the two regions is one and the other. -/
theorem bigSep_regions (Φ : Dev nD → Fin 2 → sProp (MM F)) :
    (bigSep Finset.univ fun c : Dev nD => bigSep Finset.univ fun p : Fin 2 => Φ c p) = iprop(Φ d₀ 0 ∗ Φ d₀ 1) := by
  rw [bigSep_univ_of_subsingleton d₀, show (Finset.univ : Finset (Fin 2)) = {0, 1} by decide, SparseCore.bigSep_insert' (by decide), bigSep_singleton]

/-- The launch's ghost state gives the handshakes theirs and the regions theirs. -/
theorem hu₀ : (ownU (u₀ (F := F)) : sProp (MM F))
    ⊢ |={Set.univ}=> iprop(BI.own (EH (initOf (K (F := F)).hsCells (K (F := F)).hsToks)) ∗ (bigSep Finset.univ fun d : Dev nD => regionGhost d)
        ∗ bigSep Finset.univ fun thr : Thread nD τ => bigSep Finset.univ fun q : Fin 1 => (P (callInputs m)).x q thr) := by
  unfold u₀
  iintro Hu
  ihave H := (ownU_split _ _) $$ Hu
  icases H with ⟨HH, HP⟩
  imod (Pipeline.fund_ghost (nD := nD) (pools (F := F)) EP cellOf_inj) $$ HP with ⟨Hc, Ht⟩
  imodintro
  isplitl [HH]; · iexact HH
  isplitl [Hc Ht]
  · ihave Hc := (BIBase.Entails.of_eq (bigSep_regions fun c p => Pipeline.cellsGhost (pools (F := F)) EP p c)) $$ Hc
    ihave Ht := (BIBase.Entails.of_eq (bigSep_regions fun c p => Pipeline.toksInit (pools (F := F)) EP p c)) $$ Ht
    icases Hc with ⟨Hc0, Hc1⟩
    icases Ht with ⟨Ht0, Ht1⟩
    iapply (BIBase.Entails.of_eq (bigSep_univ_of_subsingleton (Φ := fun d : Dev nD => (regionGhost d : sProp (MM F))) d₀).symm)
    unfold regionGhost
    isplitl [Hc0 Ht0]
    · isplitl [Hc0] <;> iassumption
    isplitl [Hc1] <;> iassumption
  rw [show (bigSep Finset.univ fun thr : Thread nD τ => bigSep Finset.univ fun q : Fin 1 => (P (callInputs m)).x q thr) = bigSep Finset.univ fun _ => iprop(emp) from
    bigSep_congr fun _ _ => bigSep_univ_of_subsingleton (0 : Fin 1), bigSep_nothing]
  iempintro

/-- The buffers held determine the memory. -/
theorem hfin (d : Dev nD) (s' : Phys nD τ sig (Elt F)) :
    iprop(bufsAt d (atEnd m d) ∗ SI s') ⊢ (⌜∀ b ∈ Pipeline.ucRefs τ sig, s'.mem.mem (d, b) = atEnd m d b⌝ : sProp (MM F)) := by
  unfold bufsAt held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The program's run: it ends, with every counter at zero and every buffer of the host at the value computed. -/
theorem run_main (ρ : Dev nD → PrngReg) (hI : (callInputs m).InRange) :
    θ_run (Cert.KernelIdeal.defs (F := F)) (Cert.KernelIdeal.threads (F := F)) ⟨m, fun _ => 0, ρ⟩
      fun r => (∀ d : Dev nD, ∀ b ∈ Pipeline.ucRefs τ sig, r.2.mem (d, b) = atEnd m d b) ∧ r.2.sem = fun _ => 0 :=
  SparseCore.Cfg.θ_run_sc_quiescent (K := K (F := F)) (D := D (F := F)) (𝒱 := 𝒱) (EH := EH) (P := P (callInputs m)) (A := ∅) facts v₀
    (fun q hq => match q with | 0 => nomatch hq)
    (fun q _ => match q with | 0 => tileObl (callInputs m) facts hI)
    (fun q _ => match q with | 0 => SparseCore.Cfg.VecSplit.of_plain (vecSplit (callInputs m)))
    m ρ main regionGhost (fun d => bufsAt d (atEnd m d)) (u₀ (F := F)) (sep_elim_left.trans (hu₀ m)) (hmain m ρ)
    (fun d s' => ∀ b ∈ Pipeline.ucRefs τ sig, s'.mem.mem (d, b) = atEnd m d b) (hfin m) _ (fun _ h hz => ⟨h, hz⟩)

end Cert.Proof.Scores

end
-- ==== Proof.Values.lean ====
/-
  The contents of the host's buffers along the program, as functions of its arguments.
-/
module

public import proofs.«01_k».proof.Proof.Launched

@[expose] public section

noncomputable section

namespace Cert.Proof.Scores

open Cert.KernelIdeal Cert.KernelIdeal.Gen
open Idealize.ShloMosaic
open Idealize.ShloMosaic.TcCoe
open Idealize.ShloMosaic.SparseCore.Cfg (HIx Pay Blocks)
open Idealize.ShloMosaic.Pipeline (Dat Cfg Window BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held seq seqK)

variable {F : FTy → Type} [FloatOps F]

variable (m : (ℓ : Loc nD τ sig) → Buf (Elt F) ℓ) (d : Dev nD)

/-- The edges: for each the indices of its two nodes. -/
abbrev edges : S320000x2.Idx → BitVec 32 := m ((SparseCore.T d).loc main_arg0)
/-- The nodes' embeddings. -/
abbrev nodes : S10000x128.Idx → F .f32 := m ((SparseCore.T d).loc main_arg1)
/-- The first weights. -/
abbrev weights1 : S128x256.Idx → F .f32 := m ((SparseCore.T d).loc main_arg2)
/-- The first bias. -/
abbrev bias1 : S128.Idx → F .f32 := m ((SparseCore.T d).loc main_arg3)
/-- The second weights. -/
abbrev weights2 : S1x128.Idx → F .f32 := m ((SparseCore.T d).loc main_arg4)

/-- A column of the edges, padded with zeros. -/
def padded (off : Fin 2 → ℕ) (h : S320000x2.Slices off S320000x1) (E : S320000x2.Idx → BitVec 32) : S327680.Idx → BitVec 32 :=
  concatenate S327680 0 [⟨S320000, shapeCast S320000 (extractStridedSlice S320000x1 off E h) shapeCasts_S320000x1_S320000⟩,
    ⟨S7680, broadcastInDim S7680 ![] bcast_S_S7680 (constantI S_ 32 0#32)⟩] concatenates_S320000_S7680_S327680_d0

/-- The padded first column of the edges. -/
theorem tables_v5 : atTables m d (Proc.devRef .tc main_v5) = (padded ![0, 0] slices_S320000x2_S320000x1_0_0 (edges m d) : S327680.Idx → BitVec 32) := by
  unfold atTables opsA
  after_results_simp <;> rfl

/-- The padded second column of the edges. -/
theorem tables_v7 : atTables m d (Proc.devRef .tc main_v7) = (padded ![0, 1] slices_S320000x2_S320000x1_0_1 (edges m d) : S327680.Idx → BitVec 32) := by
  unfold atTables opsA
  after_results_simp <;> rfl

/-- The left half of the first weights, transposed. -/
theorem tables_v9 : atTables m d (Proc.devRef .tc main_v9) = (transpose S128x128 [1, 0] (extractStridedSlice S128x128 ![0, 0] (weights1 m d)
    slices_S128x256_S128x128_0_0) transposes_S128x128_S128x128_1_0 : S128x128.Idx → F .f32) := by
  unfold atTables opsA
  after_results_simp <;> rfl

/-- The right half of the first weights, transposed. -/
theorem tables_v11 : atTables m d (Proc.devRef .tc main_v11) = (transpose S128x128 [1, 0] (extractStridedSlice S128x128 ![0, 128] (weights1 m d)
    slices_S128x256_S128x128_0_128) transposes_S128x128_S128x128_1_0 : S128x128.Idx → F .f32) := by
  unfold atTables opsA
  after_results_simp <;> rfl

/-- The first bias, as one row. -/
theorem tables_v12 : atTables m d (Proc.devRef .tc main_v12) = (shapeCast S1x128 (bias1 m d) shapeCasts_S128_S1x128 : S1x128.Idx → F .f32) := by
  unfold atTables opsA
  after_results_simp <;> rfl

/-- The operations before the tables region write no argument. -/
theorem tables_arg (r : Ref sig .tc) (hr : r ∈ [main_arg0, main_arg1, main_arg2, main_arg3, main_arg4, main_arg5]) :
    atTables m d (Proc.devRef .tc r) = m ((SparseCore.T d).loc r) := by
  unfold atTables
  refine StableHlo.after_of_writes_sub (W := [main_v0, main_v1, main_v2, main_v3, main_c, main_v4, main_v5, main_c_0, main_v6, main_v7, main_v8, main_v9, main_v10, main_v11, main_v12])
    opsA _ (StableHlo.forall_writes_sub_of_map rfl) ?_
  revert r; decide

/-- Away from its two results the tables region changes nothing. -/
theorem afterTables_ne (r : Ref sig .tc) (hr : r ≠ main_v13_0 ∧ r ≠ main_v13_1) :
    afterTables m d (Proc.devRef .tc r) = atTables m d (Proc.devRef .tc r) := by
  refine Pipeline.afterRegion_keeps _ _ winFacts0.arr_inj (fun _ => rfl) r ?_
  intro w hw
  subst hw
  revert hr; revert w; decide

/-- The operation before the call writes the second weights only. -/
theorem atCall_ne (r : Ref sig .tc) (hr : r ≠ main_v14) : atCall m d (Proc.devRef .tc r) = afterTables m d (Proc.devRef .tc r) :=
  StableHlo.after_of_writes_sub (W := [main_v14]) opsB _ (StableHlo.forall_writes_sub_of_map rfl) (by simpa using hr)

/-- The operations after the call write their own results only. -/
theorem atSoftmax_ne (r : Ref sig .tc) (hr : r ≠ main_v16 ∧ r ≠ main_v17) :
    atSoftmax m d (Proc.devRef .tc r) = scored (atCall m d) (Proc.devRef .tc r) :=
  StableHlo.after_of_writes_sub (W := [main_v16, main_v17]) opsC _ (StableHlo.forall_writes_sub_of_map rfl) (by simpa using hr)

/-- Away from its result the softmax region changes nothing. -/
theorem afterSoftmax_ne (r : Ref sig .tc) (hr : r ≠ main_v18) : afterSoftmax m d (Proc.devRef .tc r) = atSoftmax m d (Proc.devRef .tc r) := by
  refine Pipeline.afterRegion_keeps _ _ winFacts2.arr_inj (fun _ => rfl) r ?_
  intro w hw
  subst hw
  revert hr; revert w; decide

/-- The last operation writes its own result only. -/
theorem atEnd_ne (r : Ref sig .tc) (hr : r ≠ main_v19) : atEnd m d (Proc.devRef .tc r) = afterSoftmax m d (Proc.devRef .tc r) :=
  StableHlo.after_of_writes_sub (W := [main_v19]) opsD _ (StableHlo.forall_writes_sub_of_map rfl) (by simpa using hr)

/-- The arguments end as they began. -/
theorem end_arg (r : Ref sig .tc) (hr : r ∈ [main_arg0, main_arg1, main_arg2, main_arg3, main_arg4, main_arg5]) :
    atEnd m d (Proc.devRef .tc r) = m ((SparseCore.T d).loc r) := by
  have h : r ≠ main_v19 ∧ r ≠ main_v18 ∧ (r ≠ main_v16 ∧ r ≠ main_v17) ∧ r ≠ main_v15 ∧ r ≠ main_v14 ∧ r ≠ main_v13_0 ∧ r ≠ main_v13_1 := by
    revert r; decide
  rw [atEnd_ne m d r h.1, afterSoftmax_ne m d r h.2.1, atSoftmax_ne m d r h.2.2.1, scored_ne _ h.2.2.2.1, atCall_ne m d r h.2.2.2.2.1,
    afterTables_ne m d r h.2.2.2.2.2, tables_arg m d r hr]

/-- The first table: the nodes by the left half of the weights, and the bias. -/
def tableA : S10000x128.Idx → F .f32 :=
  k0_pay1 (nodes m d) (transpose S128x128 [1, 0] (extractStridedSlice S128x128 ![0, 0] (weights1 m d) slices_S128x256_S128x128_0_0) transposes_S128x128_S128x128_1_0)
    (shapeCast S1x128 (bias1 m d) shapeCasts_S128_S1x128)
/-- The second table: the nodes by the right half of the weights. -/
def tableB : S10000x128.Idx → F .f32 :=
  k0_pay2 (nodes m d) (transpose S128x128 [1, 0] (extractStridedSlice S128x128 ![0, 128] (weights1 m d) slices_S128x256_S128x128_0_128) transposes_S128x128_S128x128_1_0)

/-- The tables region leaves the first table. -/
theorem afterTables_a : afterTables m d (Proc.devRef .tc main_v13_0) = (tableA m d : S10000x128.Idx → F .f32) := by
  refine (Pipeline.afterRegion_arr (dat0 (atTables m d) d) (atTables m d) winFacts0.arr_inj 4).trans ?_
  refine (Dat.arrAt_eq_of_after_last (dat0 (atTables m d) d) 4 t0_0 (by decide +kernel) (k0_pay1 (emb0 (atTables m d)) (wa0 (atTables m d)) (bias0 (atTables m d))) fun j => ?_).trans ?_
  · rfl
  · rw [emb0, wa0, bias0, tables_arg m d main_arg1 (by decide), tables_v9, tables_v12]; rfl

/-- The tables region leaves the second table. -/
theorem afterTables_b : afterTables m d (Proc.devRef .tc main_v13_1) = (tableB m d : S10000x128.Idx → F .f32) := by
  refine (Pipeline.afterRegion_arr (dat0 (atTables m d) d) (atTables m d) winFacts0.arr_inj 5).trans ?_
  refine (Dat.arrAt_eq_of_after_last (dat0 (atTables m d) d) 5 t0_0 (by decide +kernel) (k0_pay2 (emb0 (atTables m d)) (wb0 (atTables m d))) fun j => ?_).trans ?_
  · rfl
  · rw [emb0, wb0, tables_arg m d main_arg1 (by decide), tables_v11]; rfl

/-- The second weights, as the call reads them. -/
theorem atCall_v14 : atCall m d (Proc.devRef .tc main_v14) = (shapeCast S128 (weights2 m d) shapeCasts_S1x128_S128 : S128.Idx → F .f32) := by
  unfold atCall opsB
  after_results_simp
  rw [afterTables_ne m d main_arg4 (by decide), tables_arg m d main_arg4 (by decide)]
  rfl

/-- What the call is given, as functions of the arguments. -/
theorem callInputs_eq : callInputs m =
    { ta := tableA m d₀, tb := tableB m d₀, src := padded ![0, 0] slices_S320000x2_S320000x1_0_0 (edges m d₀),
      dst := padded ![0, 1] slices_S320000x2_S320000x1_0_1 (edges m d₀), w := shapeCast S128 (weights2 m d₀) shapeCasts_S1x128_S128 } := by
  unfold callInputs inputsOf
  rw [atCall_v14, atCall_ne m d₀ main_v13_0 (by decide), atCall_ne m d₀ main_v13_1 (by decide), atCall_ne m d₀ main_v5 (by decide), atCall_ne m d₀ main_v7 (by decide),
    afterTables_a, afterTables_b, afterTables_ne m d₀ main_v5 (by decide), afterTables_ne m d₀ main_v7 (by decide), tables_v5, tables_v7]

/-- The softmax region's operand: the scores without the padding. -/
theorem atSoftmax_v17 : atSoftmax m d₀ (Proc.devRef .tc main_v17)
    = (shapeCast S2500x128 (extractStridedSlice S320000 ![0] (callInputs m).score slices_S327680_S320000_0) shapeCasts_S320000_S2500x128 : S2500x128.Idx → F .f32) := by
  unfold atSoftmax opsC
  after_results_simp
  rw [scored_self]
  rfl

/-- The softmax region leaves the softmax. -/
theorem afterSoftmax_v18 : afterSoftmax m d (Proc.devRef .tc main_v18) = (k2_pay1 (scores2 (atSoftmax m d)) : S2500x128.Idx → F .f32) := by
  refine (Pipeline.afterRegion_arr (dat2 (atSoftmax m d) d) (atSoftmax m d) winFacts2.arr_inj 1).trans ?_
  exact Dat.arrAt_eq_of_after_last (dat2 (atSoftmax m d) d) 1 t2_0 (by decide +kernel) (k2_pay1 (scores2 (atSoftmax m d))) fun j => rfl

/-- The result: the softmax of the scores. -/
def result : S320000.Idx → F .f32 :=
  shapeCast S320000 (k2_pay1 (shapeCast S2500x128 (extractStridedSlice S320000 ![0] (callInputs m).score slices_S327680_S320000_0) shapeCasts_S320000_S2500x128))
    shapeCasts_S2500x128_S320000

/-- The program leaves the result. -/
theorem end_result : atEnd m d₀ (Proc.devRef .tc main_v19) = (result m : S320000.Idx → F .f32) := by
  unfold atEnd opsD
  after_results_simp
  rw [afterSoftmax_v18, scores2, atSoftmax_v17]
  rfl

end Cert.Proof.Scores

end
-- ==== Proof.Frames.lean ====
/-
  The precondition read at the edges, and the claims that each program runs, leaves its arguments
  unchanged and every counter at zero.
-/
module

public import proofs.«01_k».proof.Proof.Values
public import proofs.«01_k».proof.Defs
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import Idealize.ShloMosaic.Lib.ReduceAll
public import Idealize.ShloMosaic.Lib.WordArith
public import Idealize.ShloMosaic.Lib.PointwiseCore

@[expose] public section

noncomputable section

namespace Cert.Proof.Scores

open Cert.KernelIdeal Cert.KernelIdeal.Gen
open Idealize.ShloMosaic
open Idealize.SL.Sem

variable {F : FTy → Type} [FloatOps F]

/-- A word that is at least zero and below ten thousand, as signed words are compared, names a row. -/
theorem word_lt (v : BitVec 32) (h0 : IntOp.cmpi .sge v 0#32 = 1#1) (h1 : IntOp.cmpi .slt v 10000#32 = 1#1) : v.toNat < 10000 := by
  rw [IntOp.cmpi_sge] at h0
  rw [IntOp.cmpi_slt] at h1
  simp only [BitVec.toInt_eq_toNat_cond, BitVec.toNat_ofNat, Nat.reducePow, Nat.reduceMod] at h0 h1
  omega

/-- An array of words of which every one is found at least zero, and every one below ten thousand, names rows. -/
theorem words_lt {s t u : Shape} {axes : List (Fin s.rank)} [Subsingleton t.Idx] (E lo hi : s.Idx → BitVec 32) (hlo : ∀ i, lo i = 0#32) (hhi : ∀ i, hi i = 10000#32)
    (one one' : u.Idx → BitVec 1) (h : s.ReducesTo axes t) (hu : 0 < u.numel) (j : t.Idx)
    (e0 : Host.reduce IntOp.andi (cmpi .sge E lo) one h hu j = 1#1) (e1 : Host.reduce IntOp.andi (cmpi .slt E hi) one' h hu j = 1#1) (i : s.Idx) :
    (E i).toNat < 10000 :=
  word_lt _ (hlo i ▸ Host.reduce_andi_all _ _ _ _ _ e0 i) (hhi i ▸ Host.reduce_andi_all _ _ _ _ _ e1 i)

/-- The precondition: every edge names rows. -/
theorem pre_read (E : S320000x2.Idx → BitVec 32) (x1 : S10000x128.Idx → F .f32) (x2 : S128x256.Idx → F .f32) (x3 : S128.Idx → F .f32)
    (x4 : S1x128.Idx → F .f32) (b : S1.Idx → F .f32) (h : Cert.Pre_in_range.fn (F := F) E x1 x2 x3 x4 b = fun _ => 1#1) (i) : (E i).toNat < 10000 := by
  obtain ⟨e2, e5⟩ := IntOp.andi_eq_one.1 (congrFun h (Shape.Idx.first Cert.Pre_in_range.Gen.facts.h_S_))
  haveI : Subsingleton Cert.Pre_in_range.S_.Idx := ⟨fun a b => funext fun i => i.elim0⟩
  exact words_lt E _ _ (fun _ => rfl) (fun _ => rfl) _ _ _ _ _ e2 e5 i

/-- A padded column names rows. -/
theorem padded_lt (off : Fin 2 → ℕ) (h : S320000x2.Slices off S320000x1) (E : S320000x2.Idx → BitVec 32) (hE : ∀ i, (E i).toNat < 10000) (x : S327680.Idx) :
    (padded off h E x).toNat < 10000 := by
  idx_vars x
  pointwise [padded]
  split
  · exact hE _
  · decide

/-- Where every edge names rows, so does every index the call is given. -/
theorem inRange (m : (ℓ : Loc nD τ sig) → Buf (Elt F) ℓ) (hE : ∀ i, (edges m d₀ i).toNat < 10000) : (callInputs m).InRange := by
  rw [callInputs_eq]
  exact ⟨padded_lt _ _ _ hE, padded_lt _ _ _ hE⟩

/-- The precondition gives what the run asks. -/
theorem inRange_of_pre (m : (ℓ : Loc nD τ sig) → Buf (Elt F) ℓ)
    (h : Cert.Pre_in_range.fn (F := F) (edges m d₀) (nodes m d₀) (weights1 m d₀) (bias1 m d₀) (weights2 m d₀) (m ((SparseCore.T d₀).loc main_arg5)) = fun _ => 1#1) :
    (callInputs m).InRange := inRange m (pre_read _ _ _ _ _ _ h)

/-- An argument's buffer outlives the program. -/
theorem arg_mem (r : Ref sig .tc) (hr : r ∈ [main_arg0, main_arg1, main_arg2, main_arg3, main_arg4, main_arg5, main_v19]) :
    Proc.devRef .tc r ∈ Pipeline.ucRefs τ sig := by
  refine Pipeline.devRef_mem_ucRefs ?_
  revert r; decide

/-- The run, read at the arguments and at the result. -/
theorem run_read (m : (ℓ : Loc nD τ sig) → Buf (Elt F) ℓ) (ρ : Dev nD → PrngReg) (hI : (callInputs m).InRange) :
    θ_run (Cert.KernelIdeal.defs (F := F)) (Cert.KernelIdeal.threads (F := F)) ⟨m, fun _ => 0, ρ⟩ fun r =>
      ((∀ c : Dev nD, ∀ b ∈ [main_arg0, main_arg1, main_arg2, main_arg3, main_arg4, main_arg5],
          r.2.mem ((SparseCore.T c).loc b) = m ((SparseCore.T c).loc b))
        ∧ r.2.mem ((SparseCore.T d₀).loc main_v19) = (result m : S320000.Idx → F .f32)) ∧ r.2.sem = fun _ => 0 :=
  (θ_run _ _ _).mono (fun _ h => ⟨⟨fun c b hb => (h.1 c _ (arg_mem b (by revert b; decide))).trans (end_arg m c b hb),
    (h.1 d₀ _ (arg_mem main_v19 (by decide))).trans (end_result m)⟩, h.2⟩) (run_main m ρ hI)

/-- The program over the extended reals. -/
theorem frame_ideal : Cert.quiescent_KernelIdeal := fun m ρ hpre =>
  (θ_run _ _ _).mono (fun _ h => ⟨fun c => ⟨h.1.1 c _ (by decide), h.1.1 c _ (by decide), h.1.1 c _ (by decide), h.1.1 c _ (by decide),
    h.1.1 c _ (by decide), h.1.1 c _ (by decide)⟩, h.2⟩) (run_read (F := Ideal) m ρ (inRange_of_pre m (hpre d₀)))

/-- The two printed programs' bodies are one: label by label, on each kind of processor. -/
theorem bodies_eq : Cert.Kernel.defs₀ (F := F) = Cert.KernelIdeal.defs₀ (F := F) := by
  funext p ℓ a
  rcases p with _ | _ | _
  all_goals
    revert a
    revert ℓ
    rintro ⟨i, hi⟩
    rcases i with _ | _ | _ | i
  all_goals first | exact fun _ => rfl | exact absurd hi (by omega)

/-- So their body tables are one. -/
theorem defs_eq : Cert.Kernel.defs (F := F) = Cert.KernelIdeal.defs (F := F) :=
  congrArg (fun b => (Cert.KernelIdeal.sc (F := F)).defs (Pipeline.defs Cert.KernelIdeal.pcfgs b)) bodies_eq

/-- And so are the threads. -/
theorem threads_eq : Cert.Kernel.threads (F := F) = Cert.KernelIdeal.threads (F := F) := by
  funext ⟨_, p⟩
  rcases p with _ | _ | _ <;> rfl

/-- The program over bit patterns: its text is the same. -/
theorem frame_kernel : Cert.quiescent_Kernel := fun m ρ hpre => by
  rw [congrArg₂ (fun D T => θ_run D T ⟨m, fun _ => 0, ρ⟩) defs_eq threads_eq]
  exact (θ_run _ _ _).mono (fun _ h => ⟨fun c => ⟨h.1.1 c _ (by decide), h.1.1 c _ (by decide), h.1.1 c _ (by decide), h.1.1 c _ (by decide),
    h.1.1 c _ (by decide), h.1.1 c _ (by decide)⟩, h.2⟩) (run_read (F := Bits) m ρ (inRange_of_pre m (hpre d₀)))

/-- The reference: it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Scores

end
-- ==== Proof.Reference.lean ====
/-
  The reference's result, named in steps: the columns of indices, the rows taken, the scores, the softmax.
-/
module

public import proofs.«01_k».proof.Proof.Gen.ReferenceIdeal
public import proofs.«01_k».proof.Proof.Gen.ReferenceIdeal.Run
public import Idealize.ShloMosaic.Lib.Pointwise
public import Idealize.ShloMosaic.Lib.Routing.Ops
public import Idealize.ShloMosaic.Lib.ReduceAll
public import Idealize.ShloMosaic.Lib.Tactic.CleanTypes
public import Idealize.ShloMosaic.Lib.WordArith
public import Idealize.ShloMosaic.Lib.Tactic.WordOmega

@[expose] public section

noncomputable section

namespace Cert.Proof.Plain

open Cert.ReferenceIdeal Cert.ReferenceIdeal.Gen
open Cert.ReferenceIdeal.Facts
open Idealize.ShloMosaic

variable {F : FTy → Type} [FloatOps F]

/-- A column of the edges. -/
def column (off : Fin 2 → ℕ) (h : S320000x2.Slices off S320000x1) (E : S320000x2.Idx → BitVec 32) : S320000.Idx → BitVec 32 :=
  shapeCast S320000 (extractStridedSlice S320000x1 off E h) shapeCasts_S320000x1_S320000

/-- The column with each negative index counted from the end. -/
def wrapped (c : S320000.Idx → BitVec 32) : S320000x1.Idx → BitVec 32 :=
  broadcastInDim S320000x1 ![0] bcast_S320000_S320000x1_0
    (select (cmpi .slt c (broadcastInDim S320000 ![] bcast_S_S320000 (constantI S_ 32 0#32)))
      (addi c (broadcastInDim S320000 ![] bcast_S_S320000 (constantI S_ 32 10000#32))) c)

/-- Which of the wrapped indices name a row. -/
def inside (c : S320000.Idx → BitVec 32) : S320000.Idx → BitVec 1 :=
  Host.reduce IntOp.andi (andi (cmpi .sge (wrapped c) (broadcastInDim S320000x1 ![] bcast_S_S320000x1 (constantI S_ 32 0#32)))
    (cmpi .sle (wrapped c) (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The rows taken. -/
def taken (N : S10000x128.Idx → F .f32) (c : S320000.Idx → BitVec 32) : S320000x128.Idx → F .f32 :=
  select (broadcastInDim S320000x128 ![0] bcast_S320000_S320000x128_0 (inside c))
    (Host.gather gather_S10000x128_S320000x1_S320000x128_1_0_n_n_0_1_1128 N (wrapped c))
    (broadcastInDim S320000x128 ![] bcast_S_S320000x128 (constant S_ .f32 0x7FC00000#32))

/-- The hidden layer. -/
def hidden (a b : S320000x128.Idx → F .f32) (W1 : S128x256.Idx → F .f32) (b1 : S128.Idx → F .f32) : S320000x128.Idx → F .f32 :=
  maximumf (addf (Host.dotGeneral dot_S320000x256_S256x128_S320000x128_1_0_0_1_n_n none
      (concatenate S320000x256 1 [⟨S320000x128, a⟩, ⟨S320000x128, b⟩] concatenates_S320000x128_S320000x128_S320000x256_d1)
      (transpose S256x128 [1, 0] W1 transposes_S128x256_S256x128_1_0))
    (broadcastInDim S320000x128 ![0, 1] bcast_S1x128_S320000x128_0_1 (broadcastInDim S1x128 ![1] bcast_S128_S1x128_1 b1)))
    (broadcastInDim S320000x128 ![] bcast_S_S320000x128 (constant S_ .f32 0x00000000#32))

/-- The scores. -/
def scores (h : S320000x128.Idx → F .f32) (W2 : S1x128.Idx → F .f32) (b2 : S1.Idx → F .f32) : S320000.Idx → F .f32 :=
  shapeCast S320000 (addf (Host.dotGeneral dot_S320000x128_S128x1_S320000x1_1_0_0_1_n_n none h (transpose S128x1 [1, 0] W2 transposes_S1x128_S128x1_1_0))
    (broadcastInDim S320000x1 ![0, 1] bcast_S1x1_S320000x1_0_1 (broadcastInDim S1x1 ![1] bcast_S1_S1x1_1 b2))) shapeCasts_S320000x1_S320000

/-- A scalar at every edge. -/
def everywhere (x : S_.Idx → F .f32) : S320000.Idx → F .f32 :=
  broadcastInDim S320000 ![0] bcast_S1_S320000_0 (broadcastInDim S1 ![] bcast_S_S1 x)

/-- The largest score. -/
def top (s : S320000.Idx → F .f32) : S_.Idx → F .f32 :=
  Host.reduce FloatOps.maximumf s (constant S_ .f32 0xFF800000#32) reducesTo_S320000_S_d0 h_S_

/-- The exponentials of the scores less a scalar that is raised to minus infinity at least. -/
def expsFrom (r : S_.Idx → F .f32) (s : S320000.Idx → F .f32) : S320000.Idx → F .f32 :=
  Host.exp (subf s (everywhere (maximumf (constant S_ .f32 0xFF800000#32) r)))

/-- The exponentials of the scores less the largest. -/
def exps (s : S320000.Idx → F .f32) : S320000.Idx → F .f32 := expsFrom (top s) s

/-- The sum over the edges. -/
def total (x : S320000.Idx → F .f32) : S_.Idx → F .f32 :=
  Host.reduceAdd x (constant S_ .f32 0x00000000#32) reducesTo_S320000_S_d0 h_S_

/-- The softmax. -/
def softmax (s : S320000.Idx → F .f32) : S320000.Idx → F .f32 := Host.divf (exps s) (everywhere (total (exps s)))

/-- The reference's result of its arguments. -/
def answer (E : S320000x2.Idx → BitVec 32) (N : S10000x128.Idx → F .f32) (W1 : S128x256.Idx → F .f32) (b1 : S128.Idx → F .f32)
    (W2 : S1x128.Idx → F .f32) (b2 : S1.Idx → F .f32) : S320000.Idx → F .f32 :=
  softmax (scores (hidden (taken N (column ![0, 0] slices_S320000x2_S320000x1_0_0 E)) (taken N (column ![0, 1] slices_S320000x2_S320000x1_0_1 E)) W1 b1) W2 b2)

set_option maxRecDepth 16384 in
/-- The reference leaves that result. -/
theorem res_eq (m : (ℓ : Loc nD τ sig) → Buf (Elt F) ℓ) (c : Dev nD) : Cert.ReferenceIdeal.Value.res_main_v28 m c
    = (answer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) : S320000.Idx → F .f32) := by
  unfold Cert.ReferenceIdeal.Value.res_main_v28
  rfl

/-- A column at an edge. -/
theorem column0_at (E : S320000x2.Idx → BitVec 32) (e : Fin 320000) : column ![0, 0] slices_S320000x2_S320000x1_0_0 E (ix1 e) = E (ix2 e 0) := by
  pointwise [column]

/-- The second column at an edge. -/
theorem column1_at (E : S320000x2.Idx → BitVec 32) (e : Fin 320000) : column ![0, 1] slices_S320000x2_S320000x1_0_1 E (ix1 e) = E (ix2 e 1) := by
  pointwise [column]

/-- An index that names a row is not wrapped. -/
theorem wrapped_at (c : S320000.Idx → BitVec 32) (e : Fin 320000) (h : (c (ix1 e)).toNat < 10000) : wrapped c (ix2 e 0) = c (ix1 e) := by
  pointwise [wrapped]
  generalize c (ix1 e) = v at *
  word_omega

/-- And is found inside. -/
theorem inside_at (c : S320000.Idx → BitVec 32) (h : ∀ e, (c (ix1 e)).toNat < 10000) (e : Fin 320000) : inside c (ix1 e) = 1#1 := by
  refine Host.reduce_andi_one _ _ _ _ _ rfl fun i => ?_
  idx_vars i
  have hw := wrapped_at c i0 (h i0)
  have := h i0
  obtain rfl : i1 = 0 := Subsingleton.elim _ _
  show IntOp.andi (IntOp.cmpi .sge (wrapped c (ix2 i0 0)) 0#32) (IntOp.cmpi .sle (wrapped c (ix2 i0 0)) 9999#32) = 1#1
  rw [hw, IntOp.andi_eq_one, IntOp.cmpi_sge, IntOp.cmpi_sle]
  simp only [BitVec.toInt_eq_toNat_cond, BitVec.toNat_ofNat, Nat.reducePow, Nat.reduceMod]
  omega

/-- So each row taken is the row named. -/
theorem taken_at (N : S10000x128.Idx → F .f32) (c : S320000.Idx → BitVec 32) (h : ∀ e, (c (ix1 e)).toNat < 10000) (e : Fin 320000) (k : Fin 128) :
    taken N c (ix2 e k) = N (ix2 (Fin.ofNat 10000 (c (ix1 e)).toNat) k) := by
  have hg := Routing.gather_row gather_S10000x128_S320000x1_S320000x128_1_0_n_n_0_1_1128 rfl rfl rfl rfl rfl N (wrapped c) e k (Fin.ofNat 10000 (c (ix1 e)).toNat)
    ((wrapped_at c e (h e)).trans (BitVec.eq_of_toNat_eq (by simp [Nat.mod_eq_of_lt (h e), Nat.mod_eq_of_lt (lt_trans (h e) (by norm_num : 10000 < 2 ^ 32))]))) (by norm_num)
  refine Eq.trans ?_ hg
  have hi := inside_at c h e
  pointwise [taken]
  rw [hi]
  rfl

/-- The hidden layer over the extended reals. -/
theorem hidden_at (a b : S320000x128.Idx → Ideal .f32) (W1 : S128x256.Idx → Ideal .f32) (b1 : S128.Idx → Ideal .f32) (e : Fin 320000) (f : Fin 128) :
    hidden a b W1 b1 (ix2 e f) = max ((((∑ k : Fin 128, a (ix2 e k) * W1 (ix2 f ⟨k.val, by omega⟩)) + ∑ k : Fin 128, b (ix2 e k) * W1 (ix2 f ⟨128 + k.val, by omega⟩) : EReal))
      + b1 (ix1 f)) 0 := by
  pointwise [hidden]

/-- The scores over the extended reals. -/
theorem scores_at (h : S320000x128.Idx → Ideal .f32) (W2 : S1x128.Idx → Ideal .f32) (b2 : S1.Idx → Ideal .f32) (e : Fin 320000) :
    scores h W2 b2 (ix1 e) = (∑ f : Fin 128, h (ix2 e f) * W2 (ix2 0 f) : EReal) + b2 (ix1 0) := by
  pointwise [scores]

/-- The word of minus infinity denotes the least extended real. -/
theorem neg_inf : Ideal.ofBits .f32 0xFF800000#32 = (⊥ : EReal) := by simp [Ideal.ofBits, Ideal.ieee]

/-- A maximum over a whole vector, from below everything, is the vector's supremum. -/
theorem max_all {n : ℕ} {t u : Shape} (s : (⟨1, ![n]⟩ : Shape).Idx → Ideal .f32) (init : u.Idx → Ideal .f32) (h : (⟨1, ![n]⟩ : Shape).ReducesTo [0] t)
    (hu : 0 < u.numel) (j : t.Idx) (hi : init (Shape.Idx.first hu) = (⊥ : EReal)) :
    Host.reduce FloatOps.maximumf s init h hu j = Finset.univ.sup fun i : Fin n => (s (ix1 i) : EReal) := by
  rw [Host.reduce_eq_fold, Shape.ReducesTo.fold_fiber_r1_a0, hi]
  rfl

/-- A sum over a whole vector from zero. -/
theorem add_all {n : ℕ} {t u : Shape} (s : (⟨1, ![n]⟩ : Shape).Idx → Ideal .f32) (init : u.Idx → Ideal .f32) (h : (⟨1, ![n]⟩ : Shape).ReducesTo [0] t)
    (hu : 0 < u.numel) (j : t.Idx) (hi : init (Shape.Idx.first hu) = (0 : EReal)) :
    Host.reduceAdd s init h hu j = (∑ i : Fin n, (s (ix1 i) : EReal) : EReal) := by
  refine (Ideal.hostReduceAdd_r1_a0 h s _ j).trans ?_
  rw [hi, zero_add]

/-- The largest score over the extended reals. -/
theorem top_at (s : S320000.Idx → Ideal .f32) (j : S_.Idx) : top s j = (Finset.univ.sup fun i : Fin 320000 => (s (ix1 i) : EReal) : EReal) :=
  max_all s _ _ _ j neg_inf

/-- The sum over the extended reals. -/
theorem total_at (x : S320000.Idx → Ideal .f32) (j : S_.Idx) : total x j = (∑ i : Fin 320000, (x (ix1 i) : EReal) : EReal) :=
  add_all x _ _ _ j Ideal.ofBits_zero_f32

/-- The exponentials over the extended reals. -/
theorem expsFrom_at (r : S_.Idx → Ideal .f32) (s : S320000.Idx → Ideal .f32) (e : Fin 320000) :
    expsFrom r s (ix1 e) = Ideal.exp ((s (ix1 e) : EReal) - r ix0) := by
  pointwise [expsFrom, everywhere]
  rw [neg_inf, max_eq_right bot_le]

/-- The exponentials less the largest score. -/
theorem exps_at (s : S320000.Idx → Ideal .f32) (e : Fin 320000) :
    exps s (ix1 e) = Ideal.exp ((s (ix1 e) : EReal) - Finset.univ.sup fun i : Fin 320000 => (s (ix1 i) : EReal)) := by
  rw [← top_at s ix0]
  exact expsFrom_at (top s) s e

/-- A quotient by a scalar spread over the edges. -/
theorem quotient_at (x : S320000.Idx → Ideal .f32) (r : S_.Idx → Ideal .f32) (e : Fin 320000) :
    Host.divf x (everywhere r) (ix1 e) = Ideal.div (x (ix1 e)) (r ix0) := by
  pointwise [everywhere]

/-- The softmax over the extended reals. -/
theorem softmax_at (s : S320000.Idx → Ideal .f32) (e : Fin 320000) :
    softmax s (ix1 e) = Ideal.div (exps s (ix1 e)) (∑ i : Fin 320000, (exps s (ix1 i) : EReal)) := by
  rw [← total_at (exps s) ix0]
  exact quotient_at (exps s) (total (exps s)) e

end Cert.Proof.Plain

end
-- ==== Proof.Softmax.lean ====
/-
  The program's softmax over the extended reals, and that adding one real number to every score changes nothing.
-/
module

public import proofs.«01_k».proof.Proof.Values
public import Idealize.ShloMosaic.Lib.Pointwise
public import Idealize.ShloMosaic.Lib.Tactic.CleanTypes

@[expose] public section

noncomputable section

namespace Cert.Proof.Scores

open Cert.KernelIdeal Cert.KernelIdeal.Gen
open Idealize.ShloMosaic

variable {F : FTy → Type} [FloatOps F]

/-- The one number an array of one holds. -/
def only (x : S1.Idx → F .f32) : F .f32 := extractAt ![0, 0, 0] (shapeCast S1x1x1 x shapeCasts_S1_S1x1x1) inpos_S1x1x1_p0_0_0

/-- It is that array's element. -/
theorem only_at (x : S1.Idx → F .f32) : ∃ j, only x = x j := ⟨_, rfl⟩

/-- The largest score, as the last region takes it. -/
def tileMax (x : S1x2500x128.Idx → F .f32) : S1.Idx → F .f32 := multiReduction .maximumf [1, 2] S1 x 0xFF800000#32 reduces_S1x2500x128_S1 (.inl rfl) rfl

/-- The sum, as the last region takes it. -/
def tileSum (x : S1x2500x128.Idx → F .f32) : S1.Idx → F .f32 := multiReduction .add [1, 2] S1 x 0x00000000#32 reduces_S1x2500x128_S1 (.inl rfl) rfl

/-- The largest of a tile. -/
def tileTop (x : S2500x128.Idx → F .f32) : F .f32 :=
  only (tileMax (shapeCast S1x2500x128 (shapeCast S2500x128 x shapeCasts_S2500x128_S2500x128) shapeCasts_S2500x128_S1x2500x128))

/-- The exponentials of the scores less a number. -/
def tileExps (r : F .f32) (x : S2500x128.Idx → F .f32) : S2500x128.Idx → F .f32 :=
  exp (subf (shapeCast S2500x128 x shapeCasts_S2500x128_S2500x128) (broadcast S2500x128 r))

/-- The sum of a tile. -/
def tileTotal (x : S2500x128.Idx → F .f32) : F .f32 := only (tileSum (shapeCast S1x2500x128 x shapeCasts_S2500x128_S1x2500x128))

/-- The last region's payload is the quotient of the exponentials by their sum. -/
theorem tile_eq (x : S2500x128.Idx → F .f32) :
    k2_pay1 x = divf (tileExps (tileTop x) x) (broadcast S2500x128 (tileTotal (tileExps (tileTop x) x))) := rfl

/-- A supremum over the indices of a recast array is the one over the array's own. -/
theorem sup_cast {s t : Shape} (v : s.Idx → EReal) (h : s.ShapeCasts t) :
    (Finset.univ.sup fun i : t.Idx => shapeCast t v h i) = Finset.univ.sup v := by
  rw [Finset.sup_univ_eq_iSup, Finset.sup_univ_eq_iSup]
  exact (Shape.reshapeEquiv h).iSup_comp (g := v)

/-- So is a sum. -/
theorem sum_cast {s t : Shape} (v : s.Idx → EReal) (h : s.ShapeCasts t) : ∑ i : t.Idx, shapeCast t v h i = ∑ i : s.Idx, v i :=
  Equiv.sum_comp (Shape.reshapeEquiv h) v

/-- A maximum into one number, from below everything, is the supremum. -/
theorem max_into_one {s t : Shape} {axes : List (Fin s.rank)} (src : s.Idx → Ideal .f32) (acc : BitVec (FTy.bits .f32)) (h : s.Reduces axes t) (ht : ∀ b, t.size b = 1)
    (hφ : FKind.Formats .f32) (hacc : acc = FKind.maximumf.neutral .f32 hφ) (ha : Ideal.ofBits .f32 acc = (⊥ : EReal)) (j : t.Idx) :
    multiReduction .maximumf axes t src acc h hφ hacc j = (Finset.univ.sup fun i : s.Idx => (src i : EReal)) := by
  rw [multiReduction_maximumf_eq_fold, Finset.filter_true_of_mem fun i _ => funext fun b => Fin.ext (by
    have := (h.drop i b).isLt; have := (j b).isLt; have := ht b; omega)]
  have : (FloatOps.ofBits .f32 acc : Ideal .f32) = (⊥ : EReal) := ha
  rw [this]
  rfl

/-- The maximum over the extended reals. -/
theorem tileMax_eq (x : S1x2500x128.Idx → Ideal .f32) (j : S1.Idx) : tileMax x j = (Finset.univ.sup fun i : S1x2500x128.Idx => (x i : EReal) : EReal) :=
  max_into_one x _ _ (by decide) _ _ (by simp [Ideal.ofBits, Ideal.ieee]) j

/-- The sum over the extended reals. -/
theorem tileSum_eq (x : S1x2500x128.Idx → Ideal .f32) (j : S1.Idx) : tileSum x j = (∑ i : S1x2500x128.Idx, (x i : EReal) : EReal) :=
  Ideal.multiReduction_add_total (φ := .f32) x 0x00000000#32 reduces_S1x2500x128_S1 (by decide) (.inl rfl) rfl j

/-- The largest of a tile over the extended reals. -/
theorem tileTop_eq (x : S2500x128.Idx → Ideal .f32) : tileTop x = (Finset.univ.sup fun i : S2500x128.Idx => (x i : EReal) : EReal) := by
  obtain ⟨j, hj⟩ := only_at (tileMax (shapeCast S1x2500x128 (shapeCast S2500x128 x shapeCasts_S2500x128_S2500x128) shapeCasts_S2500x128_S1x2500x128))
  unfold tileTop
  rw [hj, tileMax_eq, shapeCast_id]
  exact sup_cast (s := S2500x128) x shapeCasts_S2500x128_S1x2500x128

/-- The sum of a tile over the extended reals. -/
theorem tileTotal_eq (x : S2500x128.Idx → Ideal .f32) : tileTotal x = (∑ i : S2500x128.Idx, (x i : EReal) : EReal) :=
  (tileSum_eq _ _).trans (sum_cast (s := S2500x128) x shapeCasts_S2500x128_S1x2500x128)

/-- The exponentials at an index. -/
theorem tileExps_at (r : Ideal .f32) (x : S2500x128.Idx → Ideal .f32) (i : S2500x128.Idx) : tileExps r x i = Ideal.exp ((x i : EReal) - r) := by
  unfold tileExps
  rw [shapeCast_id]
  rfl

/-- A quotient by one number. -/
theorem tileQuotient_at (x : S2500x128.Idx → Ideal .f32) (r : Ideal .f32) (i : S2500x128.Idx) : divf x (broadcast S2500x128 r) i = Ideal.div (x i) r := rfl

/-- The softmax of a vector of extended reals, at an index. -/
def soft {ι : Type} [Fintype ι] (s : ι → EReal) (i : ι) : EReal :=
  Ideal.div (Ideal.exp (s i - Finset.univ.sup s)) (∑ k, Ideal.exp (s k - Finset.univ.sup s))

/-- The last region's payload is the softmax. -/
theorem tile_at (x : S2500x128.Idx → Ideal .f32) (i : S2500x128.Idx) : k2_pay1 (F := Ideal) x i = soft (fun i => (x i : EReal)) i := by
  rw [tile_eq, tileQuotient_at, tileTotal_eq, tileExps_at, tileTop_eq]
  unfold soft
  simp only [tileExps_at]

/-- The softmax of recast scores, recast. -/
theorem soft_equiv {ι κ : Type} [Fintype ι] [Fintype κ] (e : ι ≃ κ) (s : κ → EReal) (i : ι) : soft (fun i => s (e i)) i = soft s (e i) := by
  have h : (Finset.univ.sup fun i => s (e i)) = Finset.univ.sup s := by
    rw [Finset.sup_univ_eq_iSup, Finset.sup_univ_eq_iSup]
    exact e.iSup_comp (g := s)
  unfold soft
  rw [h, Equiv.sum_comp e fun k => Ideal.exp (s k - Finset.univ.sup s)]

/-- One real number added to every score leaves the softmax as it was. -/
theorem soft_add {ι : Type} [Fintype ι] [Nonempty ι] (s : ι → EReal) (b : ℝ) (i : ι) : soft (fun i => s i + b) i = soft s i := by
  have hs : (Finset.univ.sup fun i => s i + (b : EReal)) = Finset.univ.sup s + b := by
    have hm : Monotone fun x : EReal => x + (b : EReal) := fun x y h => add_le_add_left h _
    rw [Finset.comp_sup_eq_sup_comp_of_nonempty hm Finset.univ_nonempty]
    rfl
  have hx : ∀ x y : EReal, (x + b) - (y + b) = x - y := fun x y => by
    induction x <;> induction y <;> simp [← EReal.coe_add, ← EReal.coe_sub]
  unfold soft
  simp only [hs, hx]

end Cert.Proof.Scores

end
-- ==== Proof.Equation.lean ====
/-
  The program's result is the reference's, over the extended reals, where every edge names rows and the last bias is real.
-/
module

public import proofs.«01_k».proof.Proof.Frames
public import proofs.«01_k».proof.Proof.Reference
public import proofs.«01_k».proof.Proof.Softmax

@[expose] public section

noncomputable section

namespace Cert.Proof.Scores

open Cert.KernelIdeal Cert.KernelIdeal.Gen
open Idealize.ShloMosaic

/-- A sum over 128 features by pieces and lanes. -/
theorem sum_feat (g : Fin 128 → EReal) : ∑ j : Fin 16, ∑ c : Fin 8, g (feat c j) = ∑ f, g f := by
  rw [Finset.sum_comm, ← Fintype.sum_prod_type']
  refine Fintype.sum_equiv (finProdFinEquiv (m := 8) (n := 16)) _ _ fun x => congrArg g (Fin.ext ?_)
  show 16 * x.1.val + x.2.val = x.2.val + 16 * x.1.val
  omega

/-- One lane over the extended reals: the sum of its eight products. -/
theorem laneAt_eq (W p q : Fin 128 → Ideal .f32) (j : Fin 16) : laneAt W p q j = (∑ c : Fin 8, (prodAt W p q (feat c j) : EReal) : EReal) := by
  rw [Fin.sum_univ_eight]
  unfold laneAt
  generalize prodAt W p q = g
  show (((g (feat 0 j) : EReal) + g (feat 2 j)) + g (feat 4 j)) + g (feat 6 j) + (((g (feat 1 j) + g (feat 3 j)) + g (feat 5 j)) + g (feat 7 j)) = _
  abel

/-- Adding in order to a number adds the sum. -/
theorem foldl_add {ι : Type} (l : List ι) (g : ι → EReal) (t : EReal) : l.foldl (fun t j => t + g j) t = t + (l.map g).sum := by
  induction l generalizing t with
  | nil => simp
  | cons a l ih => rw [List.foldl_cons, ih, List.map_cons, List.sum_cons, add_assoc]

/-- The score of an edge over the extended reals. -/
theorem edgeScore_eq (W p q : Fin 128 → Ideal .f32) : edgeScore W p q = (∑ f : Fin 128, max ((p f : EReal) + q f) 0 * W f : EReal) := by
  refine (foldl_add (List.finRange 16) (fun j => (laneAt W p q j : EReal)) _).trans ?_
  rw [← List.ofFn_eq_map, List.sum_ofFn]
  simp only [laneAt_eq]
  rw [sum_feat fun f => (prodAt W p q f : EReal)]
  have h0 : (fzero : Ideal .f32) = (0 : EReal) := Ideal.ofBits_zero_f32
  rw [h0, zero_add]
  refine Finset.sum_congr rfl fun f _ => ?_
  show max ((p f : EReal) + q f) (fzero : Ideal .f32) * W f = _
  rw [h0]

variable (m : (ℓ : Loc nD τ sig) → Buf (Elt Ideal) ℓ)

/-- The first table over the extended reals. -/
theorem tableA_at (n : Fin 10000) (f : Fin 128) : tableA m d₀ (ix2 n f)
    = (∑ k : Fin 128, (nodes m d₀ (ix2 n k) : EReal) * weights1 m d₀ (ix2 f ⟨k.val, by omega⟩) : EReal) + bias1 m d₀ (ix1 f) := by
  generalize hN : nodes m d₀ = N
  generalize hW : weights1 m d₀ = W
  generalize hb : bias1 m d₀ = b
  unfold tableA
  rw [hN, hW, hb]
  pointwise [k0_pay1]

/-- The second table over the extended reals. -/
theorem tableB_at (n : Fin 10000) (f : Fin 128) : tableB m d₀ (ix2 n f)
    = (∑ k : Fin 128, (nodes m d₀ (ix2 n k) : EReal) * weights1 m d₀ (ix2 f ⟨128 + k.val, by omega⟩) : EReal) := by
  generalize hN : nodes m d₀ = N
  generalize hW : weights1 m d₀ = W
  unfold tableB
  rw [hN, hW]
  pointwise [k0_pay2]

/-- A padded column at an edge. -/
theorem padded0_at (E : S320000x2.Idx → BitVec 32) (e : Fin 320000) :
    padded ![0, 0] slices_S320000x2_S320000x1_0_0 E (ix1 ⟨e.val, by omega⟩) = E (ix2 e 0) := by
  pointwise [padded]

/-- The other column likewise. -/
theorem padded1_at (E : S320000x2.Idx → BitVec 32) (e : Fin 320000) :
    padded ![0, 1] slices_S320000x2_S320000x1_0_1 E (ix1 ⟨e.val, by omega⟩) = E (ix2 e 1) := by
  pointwise [padded]

/-- The second weights as the call reads them. -/
theorem flat_at (W : S1x128.Idx → Ideal .f32) (f : Fin 128) : shapeCast S128 W shapeCasts_S1x128_S128 (ix1 f) = W (ix2 0 f) := by
  pointwise []

/-- The node an edge names on one side. -/
def nodeAt (E : S320000x2.Idx → BitVec 32) (e : Fin 320000) (c : Fin 2) : Fin 10000 := Fin.ofNat 10000 (E (ix2 e c)).toNat

/-- The score of an edge without the last bias. -/
def plainScore (e : Fin 320000) : EReal :=
  ∑ f : Fin 128, max (((∑ k : Fin 128, (nodes m d₀ (ix2 (nodeAt (edges m d₀) e 0) k) : EReal) * weights1 m d₀ (ix2 f ⟨k.val, by omega⟩))
    + ∑ k : Fin 128, (nodes m d₀ (ix2 (nodeAt (edges m d₀) e 1) k) : EReal) * weights1 m d₀ (ix2 f ⟨128 + k.val, by omega⟩))
    + bias1 m d₀ (ix1 f)) 0 * weights2 m d₀ (ix2 0 f)

/-- What the call computes at an edge. -/
theorem score_at (e : Fin 320000) : (callInputs m).score (ix1 ⟨e.val, by omega⟩) = plainScore m e := by
  rw [callInputs_eq]
  unfold Inputs.score
  rw [edgeScore_eq]
  refine Finset.sum_congr rfl fun f _ => ?_
  dsimp only
  rw [flat_at, padded0_at, padded1_at]
  unfold rowAt
  rw [tableA_at, tableB_at, add_right_comm]
  rfl

/-- What the reference computes there. -/
theorem reference_at (hE : ∀ i, (edges m d₀ i).toNat < 10000) (b2 : S1.Idx → Ideal .f32) (e : Fin 320000) :
    Plain.scores (Plain.hidden (Plain.taken (nodes m d₀) (Plain.column ![0, 0] slices_S320000x2_S320000x1_0_0 (edges m d₀)))
      (Plain.taken (nodes m d₀) (Plain.column ![0, 1] slices_S320000x2_S320000x1_0_1 (edges m d₀))) (weights1 m d₀) (bias1 m d₀)) (weights2 m d₀) b2 (ix1 e)
    = plainScore m e + b2 (ix1 0) := by
  rw [Plain.scores_at]
  refine congrArg (fun x : EReal => x + (b2 (ix1 0) : EReal)) (Finset.sum_congr rfl fun f _ => ?_)
  rw [Plain.hidden_at]
  simp only [Plain.taken_at _ _ (fun e => (Plain.column0_at (edges m d₀) e).symm ▸ hE _), Plain.taken_at _ _ (fun e => (Plain.column1_at (edges m d₀) e).symm ▸ hE _),
    Plain.column0_at, Plain.column1_at]
  rfl

/-- The reference's softmax is the softmax. -/
theorem reference_soft (s : S320000.Idx → Ideal .f32) (e : Fin 320000) : Plain.softmax s (ix1 e) = soft (fun i : Fin 320000 => (s (ix1 i) : EReal)) e := by
  rw [Plain.softmax_at]
  simp only [Plain.exps_at]
  rfl

/-- The softmax of a vector, its indices counted. -/
theorem soft_ix1 {n : ℕ} (s : (⟨1, ![n]⟩ : Shape).Idx → EReal) (e : Fin n) : soft (fun i => s (ix1 i)) e = soft s (ix1 e) :=
  soft_equiv ⟨fun i => ix1 i, fun i => i 0, fun _ => rfl, fun i => (eq_ix1 i).symm⟩ s e

/-- The program's softmax is the softmax. -/
theorem program_soft (s : S320000.Idx → Ideal .f32) (e : Fin 320000) :
    shapeCast S320000 (k2_pay1 (F := Ideal) (shapeCast S2500x128 s shapeCasts_S320000_S2500x128)) shapeCasts_S2500x128_S320000 (ix1 e)
      = soft (fun i : Fin 320000 => (s (ix1 i) : EReal)) e := by
  refine (tile_at _ _).trans ((soft_equiv (Shape.reshapeEquiv shapeCasts_S320000_S2500x128) (fun i => (s i : EReal)) _).trans ?_)
  rw [Shape.reshapeEquiv_reshapeEquiv, Shape.reshapeEquiv_self]
  exact (soft_ix1 (fun i => (s i : EReal)) e).symm

/-- The scores without the padding. -/
theorem slice_at (x : S327680.Idx → Ideal .f32) (e : Fin 320000) :
    extractStridedSlice S320000 ![0] x slices_S327680_S320000_0 (ix1 e) = x (ix1 ⟨e.val, by omega⟩) := by
  pointwise []

/-- Where every edge names rows and the last bias is real, the program's result is the reference's. -/
theorem result_eq (hE : ∀ i, (edges m d₀ i).toNat < 10000) (b2 : S1.Idx → Ideal .f32) (b : ℝ) (hb : b2 (ix1 0) = (b : EReal)) :
    result m = Plain.answer (edges m d₀) (nodes m d₀) (weights1 m d₀) (bias1 m d₀) (weights2 m d₀) b2 := by
  funext i
  idx_vars i
  unfold result Plain.answer
  rw [program_soft, reference_soft]
  simp only [slice_at, score_at, reference_at m hE, hb]
  haveI : Nonempty (Fin 320000) := ⟨i0⟩
  exact (soft_add (plainScore m) b i0).symm

end Cert.Proof.Scores

end
-- ==== Proof.Agree.lean ====
/-
  The claims made where every edge names rows and the last bias is finite: that each program runs, and that they agree.
-/
module

public import proofs.«01_k».proof.Proof.Equation
public import proofs.«01_k».proof.Pre_in_range_bias_finite

@[expose] public section

noncomputable section

namespace Cert.Proof.Scores

open Cert.KernelIdeal Cert.KernelIdeal.Gen
open Idealize.ShloMosaic
open Idealize.SL.Sem

/-- What the second precondition's operations ask of their shapes. -/
instance finiteFacts : Cert.Pre_in_range_bias_finite.Facts where
  bcast_S_S320000x2 := by decide
  reducesTo_S320000x2_S_d0_1 := by decide
  h_S_ := by decide
  bcast_S_S1 := by decide
  reducesTo_S1_S_d0 := by decide

/-- An extended real whose magnitude is found below infinity is a real number. -/
theorem real_of_cmp (x : EReal) (h : Ideal.cmp .olt (max x (-x)) ⊤ = 1#1) : ∃ b : ℝ, x = b := by
  induction x with
  | bot => simp [Ideal.cmp] at h
  | top => simp [Ideal.cmp] at h
  | coe b => exact ⟨b, rfl⟩

/-- The word of infinity denotes the largest extended real. -/
theorem pos_inf : Ideal.ofBits .f32 0x7F800000#32 = (⊤ : EReal) := by simp [Ideal.ofBits, Ideal.ieee]

/-- The second precondition: every edge names rows, and the last bias is real. -/
theorem finite_read (E : S320000x2.Idx → BitVec 32) (x1 : S10000x128.Idx → Ideal .f32) (x2 : S128x256.Idx → Ideal .f32) (x3 : S128.Idx → Ideal .f32)
    (x4 : S1x128.Idx → Ideal .f32) (b2 : S1.Idx → Ideal .f32) (h : Cert.Pre_in_range_bias_finite.fn (F := Ideal) E x1 x2 x3 x4 b2 = fun _ => 1#1) :
    (∀ i, (E i).toNat < 10000) ∧ ∃ b : ℝ, b2 (ix1 0) = (b : EReal) := by
  obtain ⟨e6, e10⟩ := IntOp.andi_eq_one.1 (congrFun h (Shape.Idx.first finiteFacts.h_S_))
  obtain ⟨e2, e5⟩ := IntOp.andi_eq_one.1 e6
  haveI : Subsingleton Cert.Pre_in_range_bias_finite.S_.Idx := ⟨fun a b => funext fun i => i.elim0⟩
  refine ⟨words_lt E _ _ (fun _ => rfl) (fun _ => rfl) _ _ _ _ _ e2 e5, real_of_cmp _ ?_⟩
  rw [← pos_inf]
  exact Host.reduce_andi_all _ _ _ _ _ e10 (ix1 0)

/-- The program over the extended reals, under the second precondition. -/
theorem frame_ideal_finite : Cert.quiescent_KernelIdeal_pre_in_range_bias_finite := fun m ρ hpre =>
  (θ_run _ _ _).mono (fun _ h => ⟨fun c => ⟨h.1.1 c _ (by decide), h.1.1 c _ (by decide), h.1.1 c _ (by decide), h.1.1 c _ (by decide),
    h.1.1 c _ (by decide), h.1.1 c _ (by decide)⟩, h.2⟩) (run_read (F := Ideal) m ρ (inRange m (finite_read _ _ _ _ _ _ (hpre d₀)).1))

/-- The reference under the second precondition, which it does not need. -/
theorem frame_reference_finite : Cert.quiescent_ReferenceIdeal_pre_in_range_bias_finite := fun m ρ _ => frame_reference m ρ trivial

/-- From the same arguments the program and the reference end with the same result. -/
theorem agree : Cert.algebraic_KernelIdeal_ReferenceIdeal_pre_in_range_bias_finite := fun m g m' g' hpre hargs => by
  obtain ⟨hE, b, hb⟩ := finite_read _ _ _ _ _ _ (hpre d₀)
  refine ⟨fun _ => result m, ?_, ?_⟩
  · refine (θ_run _ _ _).mono (fun r h c => ⟨?_, h.1.1 c _ (by decide), h.1.1 c _ (by decide), h.1.1 c _ (by decide), h.1.1 c _ (by decide),
      h.1.1 c _ (by decide), h.1.1 c _ (by decide)⟩) (run_read (F := Ideal) m g (inRange m hE))
    obtain rfl : c = d₀ := Subsingleton.elim _ _
    exact h.1.2
  · refine (θ_run Cert.ReferenceIdeal.defs _ _).mono (fun r h c => ⟨(h c).1.trans ?_, (h c).2⟩) (Cert.ReferenceIdeal.Value.run (F := Ideal) m' g')
    obtain rfl : c = d₀ := Subsingleton.elim _ _
    obtain ⟨a0, a1, a2, a3, a4, a5⟩ := hargs d₀
    rw [Plain.res_eq]
    refine Eq.trans ?_ (result_eq m hE _ b hb).symm
    rw [a0, a1, a2, a3, a4, a5]

end Cert.Proof.Scores

end
-- ==== Proof.lean ====
/-
  The proof of `Cert.Claim`.
-/
module

public import proofs.«01_k».proof.Proof.Agree
public import proofs.«01_k».proof.Proof.Gen.KernelIdeal

@[expose] public section

noncomputable section

namespace Cert.Proof

/-- The claims, each proved in its module. -/
theorem claim : Cert.Claim := ⟨Cert.Kernel.Gen.facts, Cert.KernelIdeal.Gen.facts, Cert.ReferenceIdeal.Gen.facts, Cert.Pre_in_range.Gen.facts, Scores.finiteFacts,
  Scores.frame_kernel, Scores.frame_ideal, Scores.frame_ideal_finite, Scores.frame_reference, Scores.frame_reference_finite, trivial, Scores.agree⟩

end Cert.Proof

end
